-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_bf16_range [hPre_in_bf16_range : Cert.Pre_in_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bf16_range [hPre_in_bf16_range : Cert.Pre_in_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_bf16_range [hKernelIdeal : Cert.KernelIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_bf16_range [hReferenceIdeal : Cert.ReferenceIdeal.Facts] [hPre_in_bf16_range : Cert.Pre_in_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_bf16_range [hKernelIdeal : Cert.KernelIdeal.Facts] [hReferenceIdeal : Cert.ReferenceIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v4_0)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v4_0) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40_0) = v0 c
          ∧ r.2.mem ((c.tc : Thread Cert.ReferenceIdeal.nD Cert.ReferenceIdeal.τ).loc Cert.ReferenceIdeal.main_v40_1) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v40_2) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_bf16_range : Cert.Pre_in_bf16_range.Facts),
    quiescent_Kernel (hKernel := hKernel)
    ∧ quiescent_KernelIdeal (hKernelIdeal := hKernelIdeal)
    ∧ quiescent_KernelIdeal_pre_in_bf16_range (hKernelIdeal := hKernelIdeal) (hPre_in_bf16_range := hPre_in_bf16_range)
    ∧ quiescent_ReferenceIdeal (hReferenceIdeal := hReferenceIdeal)
    ∧ quiescent_ReferenceIdeal_pre_in_bf16_range (hReferenceIdeal := hReferenceIdeal) (hPre_in_bf16_range := hPre_in_bf16_range)
    ∧ preserves_Kernel_KernelIdeal
    ∧ algebraic_KernelIdeal_ReferenceIdeal_pre_in_bf16_range (hKernelIdeal := hKernelIdeal) (hReferenceIdeal := hReferenceIdeal) (hPre_in_bf16_range := hPre_in_bf16_range)
-- ==== Pre_in_bf16_range.lean ====
abbrev S2x8192x9216 : Shape := ⟨3, ![2, 8192, 9216]⟩
abbrev S7168x9216 : Shape := ⟨2, ![7168, 9216]⟩
abbrev S_ : Shape := ⟨0, ![]⟩

class Facts : Prop where
  bitsLt_bf16_f32 : FTy.bits .bf16 < FTy.bits .f32
  bcast_S_S2x8192x9216 : S_.BroadcastsInDim S2x8192x9216 (![] : Fin 0 → Fin S2x8192x9216.rank)
  reducesTo_S2x8192x9216_S_d0_1_2 : S2x8192x9216.ReducesTo [0, 1, 2] S_
  h_S_ : 0 < S_.numel
  bcast_S_S7168x9216 : S_.BroadcastsInDim S7168x9216 (![] : Fin 0 → Fin S7168x9216.rank)
  reducesTo_S7168x9216_S_d0_1 : S7168x9216.ReducesTo [0, 1] S_

variable [Facts]

def fn_part1 {F : FTy → Type} [FloatOps F] (main_v9 : IVec S_ 1) (main_v18 : IVec S7168x9216 1) : IVec S_ 1 :=
  let main_c_3 : IVec S_ 1 := constantI S_ 1 1#1
  let main_v19 : IVec S_ 1 := (fun x v => Host.reduce IntOp.andi x v reducesTo_S7168x9216_S_d0_1 h_S_) main_v18 main_c_3
  let main_v20 : IVec S_ 1 := andi main_v9 main_v19
  main_v20

def fn {F : FTy → Type} [FloatOps F] (main_arg0 : FVec F S2x8192x9216 .bf16) (main_arg1 : FVec F S7168x9216 .bf16) : IVec S_ 1 :=
  let main_v0 : FVec F S2x8192x9216 .f32 := (extf .f32 · bitsLt_bf16_f32) main_arg0
  let main_v1 : FVec F S2x8192x9216 .f32 := Host.absf main_v0
  let main_cst : FVec F S_ .f32 := constant S_ .f32 0x7F7F0000#32
  let main_v2 : FVec F S2x8192x9216 .f32 := broadcastInDim S2x8192x9216 ![] bcast_S_S2x8192x9216 main_cst
  let main_v3 : IVec S2x8192x9216 1 := cmpf .ole main_v1 main_v2
  let main_v4 : FVec F S2x8192x9216 .f32 := (extf .f32 · bitsLt_bf16_f32) main_arg0
  let main_v5 : FVec F S2x8192x9216 .f32 := Host.absf main_v4
  let main_cst_0 : FVec F S_ .f32 := constant S_ .f32 0x7F800000#32
  let main_v6 : FVec F S2x8192x9216 .f32 := broadcastInDim S2x8192x9216 ![] bcast_S_S2x8192x9216 main_cst_0
  let main_v7 : IVec S2x8192x9216 1 := cmpf .oeq main_v5 main_v6
  let main_v8 : IVec S2x8192x9216 1 := ori main_v3 main_v7
  let main_c : IVec S_ 1 := constantI S_ 1 1#1
  let main_v9 : IVec S_ 1 := (fun x v => Host.reduce IntOp.andi x v reducesTo_S2x8192x9216_S_d0_1_2 h_S_) main_v8 main_c
  let main_v10 : FVec F S7168x9216 .f32 := (extf .f32 · bitsLt_bf16_f32) main_arg1
  let main_v11 : FVec F S7168x9216 .f32 := Host.absf main_v10
  let main_cst_1 : FVec F S_ .f32 := constant S_ .f32 0x7F7F0000#32
  let main_v12 : FVec F S7168x9216 .f32 := broadcastInDim S7168x9216 ![] bcast_S_S7168x9216 main_cst_1
  let main_v13 : IVec S7168x9216 1 := cmpf .ole main_v11 main_v12
  let main_v14 : FVec F S7168x9216 .f32 := (extf .f32 · bitsLt_bf16_f32) main_arg1
  let main_v15 : FVec F S7168x9216 .f32 := Host.absf main_v14
  let main_cst_2 : FVec F S_ .f32 := constant S_ .f32 0x7F800000#32
  let main_v16 : FVec F S7168x9216 .f32 := broadcastInDim S7168x9216 ![] bcast_S_S7168x9216 main_cst_2
  let main_v17 : IVec S7168x9216 1 := cmpf .oeq main_v15 main_v16
  let main_v18 : IVec S7168x9216 1 := ori main_v13 main_v17
  fn_part1 (F := F) main_v9 main_v18
-- ==== Kernel.lean ====
abbrev S2x8192x9216 : Shape := ⟨3, ![2, 8192, 9216]⟩
abbrev S7168x9216 : Shape := ⟨2, ![7168, 9216]⟩
abbrev S16384x9216 : Shape := ⟨2, ![16384, 9216]⟩
abbrev S8x128 : Shape := ⟨2, ![8, 128]⟩
abbrev S512x9216 : Shape := ⟨2, ![512, 9216]⟩
abbrev S32x16x9216 : Shape := ⟨3, ![32, 16, 9216]⟩
abbrev S16x9216 : Shape := ⟨2, ![16, 9216]⟩
abbrev S16x72x128 : Shape := ⟨3, ![16, 72, 128]⟩
abbrev S16x128 : Shape := ⟨2, ![16, 128]⟩
abbrev S1x1 : Shape := ⟨2, ![1, 1]⟩
abbrev S256x9216 : Shape := ⟨2, ![256, 9216]⟩
abbrev S1x8x128 : Shape := ⟨3, ![1, 8, 128]⟩
abbrev S1 : Shape := ⟨1, ![1]⟩
abbrev S1x1x1 : Shape := ⟨3, ![1, 1, 1]⟩
abbrev S2x8192x7168 : Shape := ⟨3, ![2, 8192, 7168]⟩
abbrev S1024x9216 : Shape := ⟨2, ![1024, 9216]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 13
  | .vmem => 24
  | .smem => 2
  | _ => 0

abbrev bufTy : (tb : Table) → Fin (tcTables nBuf tb) → BufTy
  | .hbm, ⟨0, _⟩ => ⟨S2x8192x9216, .bf16⟩
  | .hbm, ⟨1, _⟩ => ⟨S7168x9216, .bf16⟩
  | .hbm, ⟨2, _⟩ => ⟨S16384x9216, .bf16⟩
  | .hbm, ⟨3, _⟩ => ⟨S8x128, .f32⟩
  | .hbm, ⟨4, _⟩ => ⟨S16384x9216, .fp8e5m2⟩
  | .hbm, ⟨5, _⟩ => ⟨S1x1, .f32⟩
  | .hbm, ⟨6, _⟩ => ⟨S8x128, .f32⟩
  | .hbm, ⟨7, _⟩ => ⟨S7168x9216, .fp8e4m3⟩
  | .hbm, ⟨8, _⟩ => ⟨S1x1, .f32⟩
  | .hbm, ⟨9, _⟩ => ⟨S2x8192x7168, .bf16⟩
  | .hbm, ⟨10, _⟩ => ⟨S2x8192x9216, .fp8e5m2⟩
  | .hbm, ⟨11, _⟩ => ⟨S_, .f32⟩
  | .hbm, ⟨12, _⟩ => ⟨S_, .f32⟩
  | .local _ .vmem, ⟨0, _⟩ => ⟨S512x9216, .bf16⟩
  | .local _ .vmem, ⟨1, _⟩ => ⟨S512x9216, .bf16⟩
  | .local _ .vmem, ⟨2, _⟩ => ⟨S8x128, .f32⟩
  | .local _ .vmem, ⟨3, _⟩ => ⟨S8x128, .f32⟩
  | .local _ .vmem, ⟨4, _⟩ => ⟨S256x9216, .bf16⟩
  | .local _ .vmem, ⟨5, _⟩ => ⟨S256x9216, .bf16⟩
  | .local _ .vmem, ⟨6, _⟩ => ⟨S256x9216, .fp8e5m2⟩
  | .local _ .vmem, ⟨7, _⟩ => ⟨S256x9216, .fp8e5m2⟩
  | .local _ .vmem, ⟨8, _⟩ => ⟨S1x1, .f32⟩
  | .local _ .vmem, ⟨9, _⟩ => ⟨S512x9216, .bf16⟩
  | .local _ .vmem, ⟨10, _⟩ => ⟨S512x9216, .bf16⟩
  | .local _ .vmem, ⟨11, _⟩ => ⟨S8x128, .f32⟩
  | .local _ .vmem, ⟨12, _⟩ => ⟨S8x128, .f32⟩
  | .local _ .vmem, ⟨13, _⟩ => ⟨S256x9216, .bf16⟩
  | .local _ .vmem, ⟨14, _⟩ => ⟨S256x9216, .bf16⟩
  | .local _ .vmem, ⟨15, _⟩ => ⟨S256x9216, .fp8e4m3⟩
  | .local _ .vmem, ⟨16, _⟩ => ⟨S256x9216, .fp8e4m3⟩
  | .local _ .vmem, ⟨17, _⟩ => ⟨S1x1, .f32⟩
  | .local _ .vmem, ⟨18, _⟩ => ⟨S1024x9216, .fp8e5m2⟩
  | .local _ .vmem, ⟨19, _⟩ => ⟨S1024x9216, .fp8e5m2⟩
  | .local _ .vmem, ⟨20, _⟩ => ⟨S1024x9216, .fp8e4m3⟩
  | .local _ .vmem, ⟨21, _⟩ => ⟨S1024x9216, .fp8e4m3⟩
  | .local _ .vmem, ⟨22, _⟩ => ⟨S1x1024x1024, .bf16⟩
  | .local _ .vmem, ⟨23, _⟩ => ⟨S1x1024x1024, .bf16⟩
  | .local _ .smem, ⟨0, _⟩ => ⟨S1x1, .f32⟩
  | .local _ .smem, ⟨1, _⟩ => ⟨S1x1, .f32⟩
  | _, _ => ⟨S2x8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc4_stg2_0 : Ref sig .tc := ⟨.vmem, 18, rfl⟩
abbrev cc4_stg2_1 : Ref sig .tc := ⟨.vmem, 19, rfl⟩
abbrev cc4_stg3_0 : Ref sig .tc := ⟨.vmem, 20, rfl⟩
abbrev cc4_stg3_1 : Ref sig .tc := ⟨.vmem, 21, rfl⟩
abbrev cc4_stg4_0 : Ref sig .tc := ⟨.vmem, 22, rfl⟩
abbrev cc4_stg4_1 : Ref sig .tc := ⟨.vmem, 23, rfl⟩
abbrev cc4_stg0_0 : Ref sig .tc := ⟨.smem, 0, rfl⟩
abbrev cc4_stg1_0 : Ref sig .tc := ⟨.smem, 1, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc2_sem0_0 : DmaSem sig := 9
abbrev cc2_sem0_1 : DmaSem sig := 10
abbrev cc2_sem1_0 : DmaSem sig := 11
abbrev cc3_sem0_0 : DmaSem sig := 12
abbrev cc3_sem1_0 : DmaSem sig := 13
abbrev cc3_sem1_1 : DmaSem sig := 14
abbrev cc3_sem2_0 : DmaSem sig := 15
abbrev cc3_sem2_1 : DmaSem sig := 16
abbrev cc3_sem3_0 : DmaSem sig := 17
abbrev cc4_sem0_0 : DmaSem sig := 18
abbrev cc4_sem1_0 : DmaSem sig := 19
abbrev cc4_sem2_0 : DmaSem sig := 20
abbrev cc4_sem2_1 : DmaSem sig := 21
abbrev cc4_sem3_0 : DmaSem sig := 22
abbrev cc4_sem3_1 : DmaSem sig := 23
abbrev cc4_sem4_0 : DmaSem sig := 24
abbrev cc4_sem4_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x9216 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x9216 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![14], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x9216 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![28], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S8x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x9216 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x9216 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨2, ![16, 7], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage4_0 : Fin 1 → Memref sig .tc .smem S1x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 1 → Memref sig .tc .smem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1024x9216 .fp8e5m2 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x9216 .fp8e4m3 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1x1024x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]
-- ==== ReferenceIdeal.lean ====
abbrev S2x8192x9216 : Shape := ⟨3, ![2, 8192, 9216]⟩
abbrev S7168x9216 : Shape := ⟨2, ![7168, 9216]⟩
abbrev S_ : Shape := ⟨0, ![]⟩
abbrev S1x1 : Shape := ⟨2, ![1, 1]⟩
abbrev S2x8192x7168 : Shape := ⟨3, ![2, 8192, 7168]⟩
abbrev S16384x9216 : Shape := ⟨2, ![16384, 9216]⟩
abbrev S16384x7168 : Shape := ⟨2, ![16384, 7168]⟩

abbrev nBuf : Space → Nat
  | .hbm => 67
  | .vmem => 5
  | .smem => 4
  | _ => 0

abbrev bufTy : (tb : Table) → Fin (tcTables nBuf tb) → BufTy
  | .hbm, ⟨0, _⟩ => ⟨S2x8192x9216, .bf16⟩
  | .hbm, ⟨1, _⟩ => ⟨S7168x9216, .bf16⟩
  | .hbm, ⟨2, _⟩ => ⟨S2x8192x9216, .f32⟩
  | .hbm, ⟨3, _⟩ => ⟨S2x8192x9216, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .i1⟩
  | .hbm, ⟨19, _⟩ => ⟨S_, .i1⟩
  | .hbm, ⟨20, _⟩ => ⟨S_, .f32⟩
  | .hbm, ⟨21, _⟩ => ⟨S_, .i1⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S7168x9216, .f32⟩
  | .hbm, ⟨32, _⟩ => ⟨S7168x9216, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .i1⟩
  | .hbm, ⟨48, _⟩ => ⟨S_, .i1⟩
  | .hbm, ⟨49, _⟩ => ⟨S_, .f32⟩
  | .hbm, ⟨50, _⟩ => ⟨S_, .i1⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x1, .f32⟩
  | .hbm, ⟨61, _⟩ => ⟨S1x1, .f32⟩
  | .hbm, ⟨62, _⟩ => ⟨S1x1, .f32⟩
  | .hbm, ⟨63, _⟩ => ⟨S1x1, .f32⟩
  | .hbm, ⟨64, _⟩ => ⟨S2x8192x7168, .bf16⟩
  | .hbm, ⟨65, _⟩ => ⟨S2x8192x9216, .fp8e5m2⟩
  | .hbm, ⟨66, _⟩ => ⟨S7168x9216, .fp8e4m3⟩
  | .local _ .vmem, ⟨0, _⟩ => ⟨S2x8192x9216, .bf16⟩
  | .local _ .vmem, ⟨1, _⟩ => ⟨S7168x9216, .bf16⟩
  | .local _ .vmem, ⟨2, _⟩ => ⟨S2x8192x7168, .bf16⟩
  | .local _ .vmem, ⟨3, _⟩ => ⟨S2x8192x9216, .fp8e5m2⟩
  | .local _ .vmem, ⟨4, _⟩ => ⟨S7168x9216, .fp8e4m3⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S2x8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_cst_6 : Ref sig .tc := ⟨.hbm, 23, rfl⟩
abbrev main_call0_v0 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_v16 : Ref sig .tc := ⟨.hbm, 28, rfl⟩
abbrev main_cst_8 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_9 : Ref sig .tc := ⟨.hbm, 33, rfl⟩
abbrev main_v20 : Ref sig .tc := ⟨.hbm, 34, rfl⟩
abbrev main_cst_10 : Ref sig .tc := ⟨.hbm, 35, rfl⟩
abbrev main_v21 : Ref sig .tc := ⟨.hbm, 36, rfl⟩
abbrev main_v22 : Ref sig .tc := ⟨.hbm, 37, rfl⟩
abbrev main_cst_11 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_12 : Ref sig .tc := ⟨.hbm, 42, rfl⟩
abbrev main_v26 : Ref sig .tc := ⟨.hbm, 43, rfl⟩
abbrev main_cst_13 : Ref sig .tc := ⟨.hbm, 44, rfl⟩
abbrev main_v27 : Ref sig .tc := ⟨.hbm, 45, rfl⟩
abbrev main_cst_14 : Ref sig .tc := ⟨.hbm, 46, rfl⟩
abbrev main_v28 : Ref sig .tc := ⟨.hbm, 47, rfl⟩
abbrev main_v29 : Ref sig .tc := ⟨.hbm, 48, rfl⟩
abbrev main_cst_15 : Ref sig .tc := ⟨.hbm, 49, rfl⟩
abbrev main_v30 : Ref sig .tc := ⟨.hbm, 50, rfl⟩
abbrev main_v31 : Ref sig .tc := ⟨.hbm, 51, rfl⟩
abbrev main_cst_16 : Ref sig .tc := ⟨.hbm, 52, rfl⟩
abbrev main_call1_v0 : Ref sig .tc := ⟨.hbm, 53, rfl⟩
abbrev main_v32 : Ref sig .tc := ⟨.hbm, 54, rfl⟩
abbrev main_cst_17 : Ref sig .tc := ⟨.hbm, 55, rfl⟩
abbrev main_v33 : Ref sig .tc := ⟨.hbm, 56, rfl⟩
abbrev main_v34 : Ref sig .tc := ⟨.hbm, 57, rfl⟩
abbrev main_cst_18 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40_0 : Ref sig .tc := ⟨.hbm, 64, rfl⟩
abbrev main_v40_1 : Ref sig .tc := ⟨.hbm, 65, rfl⟩
abbrev main_v40_2 : Ref sig .tc := ⟨.hbm, 66, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x9216 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x9216 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8192x9216 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x9216 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelRun.lean ====
module

public import proofs.«01_k».proof.Proof.Gen.KernelIdeal.Frame
/-!
# The kernel's run

The run that the frame claim describes, with the contents of every result at the end of it: `W7`, the buffers after the
last call and the reshapes behind it.
-/

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel's program ends with its unscoped buffers at `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-- The results and the arguments after a run. -/
theorem results : θ_run defs (onTc (τ := τ) (main (F := F))) ⟨m, fun _ => 0, ρ⟩ (fun r => ∀ c : Dev nD,
      r.2.mem ((c.tc : Thread nD τ).loc main_v5) = W7 m ρ c (Proc.devRef .tc main_v5)
      ∧ r.2.mem ((c.tc : Thread nD τ).loc main_v6) = W7 m ρ c (Proc.devRef .tc main_v6)
      ∧ r.2.mem ((c.tc : Thread nD τ).loc main_v7) = W7 m ρ c (Proc.devRef .tc main_v7)
      ∧ r.2.mem ((c.tc : Thread nD τ).loc main_v4_0) = W7 m ρ c (Proc.devRef .tc main_v4_0)
      ∧ r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)), h c _ (mem_uc main_v6 (by decide)), h c _ (mem_uc main_v7 (by decide)),
      h c _ (mem_uc main_v4_0 (by decide)), h c _ (mem_uc main_v8 (by decide)),
      (h c _ (mem_uc main_arg0 (by decide))).trans (W7_main_arg0 m ρ c),
      (h c _ (mem_uc main_arg1 (by decide))).trans (W7_main_arg1 m ρ c)⟩) (run m ρ)

end Cert.Proof.KernelRun
-- ==== Proof.RefBlocks.lean ====
module

public import proofs.«01_k».proof.Proof.Gen.ReferenceIdeal.Value
public import Idealize.ShloMosaic.Lib.Pipeline.ValueKit
/-!
# The blocks of the reference's one call

The call has one point, and each of its blocks is a whole array.
-/

@[expose] public section

set_option maxRecDepth 16384

noncomputable section

namespace Cert.Proof.RefBlocks

open Idealize.ShloMosaic Cert.ReferenceIdeal Cert.ReferenceIdeal.Gen

variable (m : (ℓ : Loc nD τ sig) → Buf (Elt Ideal) ℓ) (c : Dev nD)

/-- The windows' index maps. -/
theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0] ∧ win0_6.index t = ![0, 0, 0]
    ∧ win0_7.index t = ![0, 0, 0] ∧ win0_8.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0, 0] ∧ win0_5.index t = ![0, 0] ∧ win0_6.index t = ![0, 0, 0]
    ∧ win0_7.index t = ![0, 0, 0] ∧ win0_8.index t = ![0, 0])

/-- The blocks of the seven windows read from arrays `W`: each is its whole array. -/
theorem blk0 (W : (b : Ref sig .tc) → Buf (Elt Ideal) ((c.tc : Thread nD τ).loc b)) (t : Fin cfg0.N) :
    (show Vec Ideal S1x1 .f32 from ((cfg0.win 0).blk t).view.read (Elt Ideal) (W (Pipeline.arrRef spec0 0))) = W main_v36 := by
  blk_ext! [idx t]

theorem blk1 (W : (b : Ref sig .tc) → Buf (Elt Ideal) ((c.tc : Thread nD τ).loc b)) (t : Fin cfg0.N) :
    (show Vec Ideal S1x1 .f32 from ((cfg0.win 1).blk t).view.read (Elt Ideal) (W (Pipeline.arrRef spec0 1))) = W main_v37 := by
  blk_ext! [idx t]

theorem blk2 (W : (b : Ref sig .tc) → Buf (Elt Ideal) ((c.tc : Thread nD τ).loc b)) (t : Fin cfg0.N) :
    (show Vec Ideal S1x1 .f32 from ((cfg0.win 2).blk t).view.read (Elt Ideal) (W (Pipeline.arrRef spec0 2))) = W main_v38 := by
  blk_ext! [idx t]

theorem blk3 (W : (b : Ref sig .tc) → Buf (Elt Ideal) ((c.tc : Thread nD τ).loc b)) (t : Fin cfg0.N) :
    (show Vec Ideal S1x1 .f32 from ((cfg0.win 3).blk t).view.read (Elt Ideal) (W (Pipeline.arrRef spec0 3))) = W main_v39 := by
  blk_ext! [idx t]

theorem blk4 (W : (b : Ref sig .tc) → Buf (Elt Ideal) ((c.tc : Thread nD τ).loc b)) (t : Fin cfg0.N) :
    (show Vec Ideal S2x8192x9216 .bf16 from ((cfg0.win 4).blk t).view.read (Elt Ideal) (W (Pipeline.arrRef spec0 4))) = W main_arg0 := by
  blk_ext! [idx t]

theorem blk5 (W : (b : Ref sig .tc) → Buf (Elt Ideal) ((c.tc : Thread nD τ).loc b)) (t : Fin cfg0.N) :
    (show Vec Ideal S7168x9216 .bf16 from ((cfg0.win 5).blk t).view.read (Elt Ideal) (W (Pipeline.arrRef spec0 5))) = W main_arg1 := by
  blk_ext! [idx t]

theorem iblk0 (t : Fin cfg0.N) (x : Vec Ideal S1x1 .f32) (h : V m c main_v36 = x) : iblk m c 0 t = x := (blk0 c (V m c) t).trans h
theorem iblk1 (t : Fin cfg0.N) (x : Vec Ideal S1x1 .f32) (h : V m c main_v37 = x) : iblk m c 1 t = x := (blk1 c (V m c) t).trans h
theorem iblk2 (t : Fin cfg0.N) (x : Vec Ideal S1x1 .f32) (h : V m c main_v38 = x) : iblk m c 2 t = x := (blk2 c (V m c) t).trans h
theorem iblk3 (t : Fin cfg0.N) (x : Vec Ideal S1x1 .f32) (h : V m c main_v39 = x) : iblk m c 3 t = x := (blk3 c (V m c) t).trans h
theorem iblk4 (t : Fin cfg0.N) (x : Vec Ideal S2x8192x9216 .bf16) (h : V m c main_arg0 = x) : iblk m c 4 t = x := (blk4 c (V m c) t).trans h
theorem iblk5 (t : Fin cfg0.N) (x : Vec Ideal S7168x9216 .bf16) (h : V m c main_arg1 = x) : iblk m c 5 t = x := (blk5 c (V m c) t).trans h

end Cert.Proof.RefBlocks
-- ==== Proof.RefArrays.lean ====
module

public import proofs.«01_k».proof.Proof.RefBlocks
public import Idealize.ShloMosaic.Lib.Pipeline.ReadBack
/-!
# The reference's one call

What its three outputs hold, as functions of the arrays it is given.
-/

@[expose] public section

set_option maxRecDepth 16384

noncomputable section

namespace Cert.Proof.RefArrays

open Idealize.ShloMosaic Cert.ReferenceIdeal Cert.ReferenceIdeal.Gen Cert.Proof.RefBlocks

variable (m : (ℓ : Loc nD τ sig) → Buf (Elt Ideal) ℓ) (c : Dev nD)

/-- The `1 x 1` vectors have one index. -/
theorem one_idx (i j : S1x1.Idx) : i = j := by
  funext a
  fin_cases a
  · exact Fin.ext (by have h1 := (i 0).isLt; have h2 := (j 0).isLt; change (i 0 : ℕ) < 1 at h1; change (j 0 : ℕ) < 1 at h2; show (i 0 : ℕ) = (j 0 : ℕ); omega)
  · exact Fin.ext (by have h1 := (i 1).isLt; have h2 := (j 1).isLt; change (i 1 : ℕ) < 1 at h1; change (j 1 : ℕ) < 1 at h2; show (i 1 : ℕ) = (j 1 : ℕ); omega)

/-- The codes of `dy`. -/
theorem final7 (x : Vec Ideal S2x8192x9216 .bf16) (i : Vec Ideal S1x1 .f32) (hx : V m c main_arg0 = x)
    (hi : V m c main_v37 = i) : (dats m 0 c).arrAt 7 cfg0.N = k0_pay1 (F := Ideal) x (i (ix2 0 0)) := by
  refine (dats m 0 c).arrAt_eq_of_after_last 7 t0_0 (by decide +kernel) _ fun j => ?_
  blk_simp
  rw [after0_7]
  unfold Gen.outsAt0
  frame_out
  rw [iblk4 m c t0_0 x hx, iblk1 m c t0_0 i hi]
  simp only [read_unread_whole]
  exact congrArg (fun k => k0_pay1 (F := Ideal) x (i k) j) (one_idx _ _)

/-- The codes of `w`. -/
theorem final8 (x : Vec Ideal S7168x9216 .bf16) (i : Vec Ideal S1x1 .f32) (hx : V m c main_arg1 = x)
    (hi : V m c main_v39 = i) : (dats m 0 c).arrAt 8 cfg0.N = k0_pay2 (F := Ideal) x (i (ix2 0 0)) := by
  refine (dats m 0 c).arrAt_eq_of_after_last 8 t0_0 (by decide +kernel) _ fun j => ?_
  blk_simp
  rw [after0_8]
  unfold Gen.outsAt0
  frame_out
  rw [iblk5 m c t0_0 x hx, iblk3 m c t0_0 i hi]
  simp only [read_unread_whole]
  exact congrArg (fun k => k0_pay2 (F := Ideal) x (i k) j) (one_idx _ _)

/-- The rescaled product. -/
theorem final6 (x : Vec Ideal S2x8192x9216 .bf16) (y : Vec Ideal S7168x9216 .bf16) (s i s' i' : Vec Ideal S1x1 .f32)
    (hx : V m c main_arg0 = x) (hy : V m c main_arg1 = y) (hs : V m c main_v36 = s) (hi : V m c main_v37 = i)
    (hs' : V m c main_v38 = s') (hi' : V m c main_v39 = i') : (dats m 0 c).arrAt 6 cfg0.N
      = k0_pay3 (F := Ideal) x (i (ix2 0 0)) y (i' (ix2 0 0)) (s (ix2 0 0)) (s' (ix2 0 0)) := by
  refine (dats m 0 c).arrAt_eq_of_after_last 6 t0_0 (by decide +kernel) _ fun j => ?_
  blk_simp
  rw [after0_6]
  unfold Gen.outsAt0
  frame_out
  rw [iblk4 m c t0_0 x hx, iblk5 m c t0_0 y hy, iblk0 m c t0_0 s hs, iblk1 m c t0_0 i hi, iblk2 m c t0_0 s' hs',
    iblk3 m c t0_0 i' hi']
  simp only [read_unread_whole]
  rw [one_idx (Shape.Idx.first _) (ix2 0 0)]

end Cert.Proof.RefArrays
-- ==== Proof.Scale.lean ====
module

public import proofs.«01_k».proof.Proof.Gen.KernelIdeal.Skeleton
public import Idealize.ShloMosaic.Lib.Pipeline.ValueKit
/-!
# The power-of-two scale

The kernel finds the exponent of `t = amax · (1 / fmax)` by comparing `t` with powers of two, bit by bit; the
reference takes `⌊log t / log 2⌋ + 1`. This module shows that both give the same scale and the same inverse
scale, for every `t ≥ 0` that is at most `2 ^ 120` or infinite. Nothing here mentions an array.
-/

@[expose] public section

set_option maxRecDepth 16384

noncomputable section

namespace Cert.Proof.Scale

open Idealize.ShloMosaic

/-- The number whose `f32` pattern is `b` shifted into the exponent field. -/
def power (b : BitVec 32) : EReal := Ideal.ofBits .f32 (b <<< 23)

/-- One step of the search: take the bits `c` into `f` if the power of two stays at most `t`. -/
def step (t : EReal) (f c : BitVec 32) : BitVec 32 := if power (f ||| c) ≤ t then f ||| c else f

/-- The eight steps of the search, from the highest bit down. -/
def field (t : EReal) : BitVec 32 :=
  step t (step t (step t (step t (step t (step t (step t (step t 0 128) 64) 32) 16) 8) 4) 2) 1

/-- The exponent the kernel takes from the field it found. -/
def exponent (b : BitVec 32) : BitVec 32 := if b = 0 ∨ b = 255 then 0 else b - 126

/-- The exponent the reference takes: zero for a zero, tiny or infinite quotient. -/
def refExponent (amax t : EReal) : EReal :=
  if amax = 0 ∨ t < ((2 : ℝ) ^ (-126 : ℤ) : ℝ) ∨ t = ⊤ then 0
  else Ideal.liftRound Int.floor (Ideal.div (Ideal.log t) (Ideal.log 2)) + 1

/-- A field shifted into place and read back. -/
theorem parts : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- What a field denotes: zero, a power of two, or infinity. -/
theorem power_eq (n : ℕ) (h : n < 256) : power (BitVec.ofNat 32 n) =
    if n = 255 then ⊤ else if n = 0 then 0 else (((2 : ℝ) ^ ((n : ℤ) - 127) : ℝ) : EReal) := by
  have hp := parts ⟨n, h⟩
  unfold power
  generalize BitVec.ofNat 32 n <<< 23 = b at hp ⊢
  obtain ⟨h1, h2, h3⟩ := hp
  simp only [Ideal.ofBits, Ideal.ieee]
  rw [show 8 + 23 = 31 from rfl, h1, h2, h3]
  by_cases h255 : n = 255
  · rw [if_pos (show ((⟨n, h⟩ : Fin 256) : ℕ) = 2 ^ 8 - 1 from h255), if_pos rfl, if_pos h255]; rfl
  · rw [if_neg (by simpa using h255), if_neg h255]
    by_cases h0 : n = 0
    · rw [if_pos h0, if_pos h0]; simp
    · rw [if_neg h0, if_neg h0]
      congr 1
      rw [if_neg Bool.false_ne_true, show ((n : ℤ) - (2 ^ (8 - 1) - 1) - (23 : ℕ)) = ((n : ℤ) - 127) + (-23) by norm_num; ring,
        zpow_add₀ (by norm_num)]
      norm_num
      ring

/-- The powers of two increase with the field. -/
theorem power_mono {a b : ℕ} (h : a ≤ b) (hb : b < 256) : power (BitVec.ofNat 32 a) ≤ power (BitVec.ofNat 32 b) := by
  rw [power_eq a (by omega), power_eq b hb]
  by_cases hb' : b = 255
  · rw [if_pos hb']; exact le_top
  rw [if_neg hb', if_neg (by omega)]
  by_cases ha : a = 0
  · rw [if_pos ha]
    split
    · exact le_refl _
    · exact EReal.coe_nonneg.2 (zpow_pos (by norm_num) _).le
  rw [if_neg ha, if_neg (by omega)]
  exact EReal.coe_le_coe_iff.2 (zpow_le_zpow_right₀ (by norm_num) (by omega))

/-- For `t ≥ 0` there is a greatest field whose number is at most `t`. -/
theorem exists_field (t : EReal) (ht : 0 ≤ t) :
    ∃ b : ℕ, b < 256 ∧ ∀ c : ℕ, c < 256 → (power (BitVec.ofNat 32 c) ≤ t ↔ c ≤ b) := by
  classical
  refine ⟨Nat.findGreatest (fun c => power (BitVec.ofNat 32 c) ≤ t) 255, ?_, fun c hc => ⟨fun h => ?_, fun h => ?_⟩⟩
  · have := Nat.findGreatest_le (P := fun c => power (BitVec.ofNat 32 c) ≤ t) 255
    omega
  · exact Nat.le_findGreatest (by omega) h
  · have h0 : power (BitVec.ofNat 32 0) ≤ t := by rw [power_eq 0 (by norm_num)]; simpa using ht
    have hg := Nat.findGreatest_spec (P := fun c => power (BitVec.ofNat 32 c) ≤ t) (Nat.zero_le 255) h0
    have := Nat.findGreatest_le (P := fun c => power (BitVec.ofNat 32 c) ≤ t) 255
    exact (power_mono h (by omega)).trans hg

/-- The step of the search on numbers, against the field that is looked for. -/
def stepNat (b f c : ℕ) : ℕ := if f ||| c ≤ b then f ||| c else f

/-- Eight steps find any field. -/
theorem stepNat_eq : ∀ b : Fin 256, stepNat b (stepNat b (stepNat b (stepNat b (stepNat b (stepNat b (stepNat b
    (stepNat b 0 128) 64) 32) 16) 8) 4) 2) 1 = b := by decide +kernel

/-- A step of the search on words is the step on numbers. -/
theorem step_eq (t : EReal) (b : ℕ) (h : ∀ c : ℕ, c < 256 → (power (BitVec.ofNat 32 c) ≤ t ↔ c ≤ b))
    (f c : ℕ) (hf : f < 256) (hc : c < 256) :
    step t (BitVec.ofNat 32 f) (BitVec.ofNat 32 c) = BitVec.ofNat 32 (stepNat b f c) ∧ stepNat b f c < 256 := by
  have hor : f ||| c < 256 := Nat.or_lt_two_pow (n := 8) hf hc
  have e : BitVec.ofNat 32 f ||| BitVec.ofNat 32 c = BitVec.ofNat 32 (f ||| c) := by
    simp
  unfold step stepNat
  rw [e]
  by_cases hle : f ||| c ≤ b
  · rw [if_pos ((h _ hor).2 hle), if_pos hle]; exact ⟨rfl, hor⟩
  · rw [if_neg (fun hp => hle ((h _ hor).1 hp)), if_neg hle]; exact ⟨rfl, hf⟩

/-- The search finds the greatest field whose number is at most `t`. -/
theorem field_eq (t : EReal) (b : ℕ) (hb : b < 256)
    (h : ∀ c : ℕ, c < 256 → (power (BitVec.ofNat 32 c) ≤ t ↔ c ≤ b)) : field t = BitVec.ofNat 32 b := by
  unfold field
  obtain ⟨e1, l1⟩ := step_eq t b h 0 128 (by norm_num) (by norm_num)
  obtain ⟨e2, l2⟩ := step_eq t b h _ 64 l1 (by norm_num)
  obtain ⟨e3, l3⟩ := step_eq t b h _ 32 l2 (by norm_num)
  obtain ⟨e4, l4⟩ := step_eq t b h _ 16 l3 (by norm_num)
  obtain ⟨e5, l5⟩ := step_eq t b h _ 8 l4 (by norm_num)
  obtain ⟨e6, l6⟩ := step_eq t b h _ 4 l5 (by norm_num)
  obtain ⟨e7, l7⟩ := step_eq t b h _ 2 l6 (by norm_num)
  obtain ⟨e8, l8⟩ := step_eq t b h _ 1 l7 (by norm_num)
  rw [show (0 : BitVec 32) = BitVec.ofNat 32 0 from rfl, show (128 : BitVec 32) = BitVec.ofNat 32 128 from rfl,
    show (64 : BitVec 32) = BitVec.ofNat 32 64 from rfl, show (32 : BitVec 32) = BitVec.ofNat 32 32 from rfl,
    show (16 : BitVec 32) = BitVec.ofNat 32 16 from rfl, show (8 : BitVec 32) = BitVec.ofNat 32 8 from rfl,
    show (4 : BitVec 32) = BitVec.ofNat 32 4 from rfl, show (2 : BitVec 32) = BitVec.ofNat 32 2 from rfl,
    show (1 : BitVec 32) = BitVec.ofNat 32 1 from rfl, e1, e2, e3, e4, e5, e6, e7, e8]
  exact congrArg _ (stepNat_eq ⟨b, hb⟩)

/-- The reference's exponent of a quotient between two neighbouring powers of two. -/
theorem floor_log (r : ℝ) (k : ℤ) (h1 : (2 : ℝ) ^ k ≤ r) (h2 : r < (2 : ℝ) ^ (k + 1)) :
    Ideal.liftRound Int.floor (Ideal.div (Ideal.log (r : EReal)) (Ideal.log ((2 : ℝ) : EReal))) = ((k : ℝ) : EReal) := by
  have hr : 0 < r := lt_of_lt_of_le (zpow_pos (by norm_num) _) h1
  have hl : Real.log 2 ≠ 0 := (Real.log_pos (by norm_num)).ne'
  rw [Ideal.log_coe, Ideal.log_coe, if_neg (not_le.2 hr), if_neg (by norm_num), Ideal.div_coe hl, ← EReal.coe_mul,
    Ideal.liftRound_coe]
  congr 2
  have hl' : 0 < Real.log 2 := Real.log_pos (by norm_num)
  rw [Int.floor_eq_iff, mul_one_div]
  constructor
  · rw [le_div_iff₀ hl', ← Real.log_zpow]
    exact Real.log_le_log (zpow_pos (by norm_num) _) h1
  · rw [div_lt_iff₀ hl', show ((k : ℝ) + 1) = ((k + 1 : ℤ) : ℝ) by push_cast; ring, ← Real.log_zpow]
    exact Real.log_lt_log hr h2

/-- Two to an integer power, as the reference's power operation reads it. -/
theorem pow_two (k : ℤ) : Ideal.pow ((2 : ℝ) : EReal) ((k : ℝ) : EReal) = (((2 : ℝ) ^ k : ℝ) : EReal) := by
  rw [Ideal.pow_coe_coe]
  congr 1
  exact Real.rpow_intCast 2 k

/-- Words of the exponents that can occur: scale and inverse scale have the fields `127 + e` and `127 - e`. -/
theorem exponent_words : ∀ b : Fin 248, b.val ≠ 0 →
    127#32 + exponent (BitVec.ofNat 32 b.val) = BitVec.ofNat 32 (b.val + 1)
    ∧ 127#32 - exponent (BitVec.ofNat 32 b.val) = BitVec.ofNat 32 (253 - b.val) := by decide +kernel

/-- **The scale.** For a quotient that is nonnegative and at most `2 ^ 120`, or infinite, the kernel's scale and
    inverse scale are two to the reference's exponent and to its negative. -/
theorem scale_eq (amax t : EReal) (ht : 0 ≤ t) (hbig : t ≤ (((2 : ℝ) ^ (120 : ℤ) : ℝ) : EReal) ∨ t = ⊤)
    (hz : amax = 0 → t = 0) :
    power (127#32 + exponent (field t)) = Ideal.pow ((2 : ℝ) : EReal) (refExponent amax t)
    ∧ power (127#32 - exponent (field t)) = Ideal.pow ((2 : ℝ) : EReal) (-(refExponent amax t)) := by
  obtain ⟨b, hb, hs⟩ := exists_field t ht
  rw [field_eq t b hb hs]
  have hone : power (127#32) = ((2 : ℝ) ^ (0 : ℤ) : ℝ) := by
    rw [show (127#32) = BitVec.ofNat 32 127 from rfl, power_eq 127 (by norm_num)]; simp
  have hzero : ((0 : EReal)) = (((0 : ℤ) : ℝ) : EReal) := by simp
  have edge : exponent (BitVec.ofNat 32 b) = 0 → refExponent amax t = 0 →
      power (127#32 + exponent (BitVec.ofNat 32 b)) = Ideal.pow ((2 : ℝ) : EReal) (refExponent amax t)
      ∧ power (127#32 - exponent (BitVec.ofNat 32 b)) = Ideal.pow ((2 : ℝ) : EReal) (-(refExponent amax t)) := by
    intro e1 e2
    rw [e1, e2, neg_zero, hzero, pow_two]
    exact ⟨hone, hone⟩
  rcases hbig with hbig | htop
  · -- a finite quotient
    have hb247 : b ≤ 247 := by
      by_contra hcon
      have h1 := (hs 248 (by norm_num)).2 (by omega)
      rw [power_eq 248 (by norm_num)] at h1
      have h2 := h1.trans hbig
      norm_num at h2
    have htne : t ≠ ⊤ := fun h => by rw [h] at hbig; exact absurd (top_le_iff.1 hbig) (EReal.coe_ne_top _)
    have htnb : t ≠ ⊥ := fun h => by rw [h] at ht; simp at ht
    lift t to ℝ using ⟨htne, htnb⟩
    by_cases hb0 : b = 0
    · refine edge (by rw [hb0]; decide) ?_
      unfold refExponent
      rw [if_pos]
      right; left
      have h1 := fun h => (hs 1 (by norm_num)).1 h
      by_contra hcon
      have := h1 (by rw [power_eq 1 (by norm_num)]; simpa using hcon)
      omega
    · obtain ⟨e1, e2⟩ := exponent_words ⟨b, by omega⟩ hb0
      simp only at e1 e2
      have hlo := (hs b hb).2 le_rfl
      have hhi : ¬ _ := fun h => absurd ((hs (b + 1) (by omega)).1 h) (by omega)
      rw [power_eq b hb, if_neg (by omega), if_neg hb0] at hlo
      rw [power_eq (b + 1) (by omega), if_neg (by omega), if_neg (by omega)] at hhi
      have hlo' : (2 : ℝ) ^ ((b : ℤ) - 127) ≤ t := by exact_mod_cast hlo
      have hhi' : t < (2 : ℝ) ^ ((b : ℤ) - 127 + 1) := by
        have : ¬ ((2 : ℝ) ^ (((b + 1 : ℕ) : ℤ) - 127) ≤ t) := fun h => hhi (by exact_mod_cast h)
        rw [show ((b : ℤ) - 127 + 1) = (((b + 1 : ℕ) : ℤ) - 127) by push_cast; ring]
        exact not_le.1 this
      have hex : refExponent amax (t : EReal) = ((((b : ℤ) - 126 : ℤ) : ℝ) : EReal) := by
        unfold refExponent
        rw [if_neg]
        · rw [show (2 : EReal) = ((2 : ℝ) : EReal) from rfl, floor_log t _ hlo' hhi', ← EReal.coe_one, ← EReal.coe_add]
          congr 1
          push_cast
          ring
        · rintro (h | h | h)
          · have := hz h
            have h0 : t = 0 := by exact_mod_cast this
            rw [h0] at hlo'
            exact absurd hlo' (not_le.2 (zpow_pos (by norm_num) _))
          · have h' : t < (2 : ℝ) ^ (-126 : ℤ) := by exact_mod_cast h
            have : (2 : ℝ) ^ (-126 : ℤ) ≤ (2 : ℝ) ^ ((b : ℤ) - 127) :=
              zpow_le_zpow_right₀ (by norm_num) (by omega)
            linarith
          · exact EReal.coe_ne_top _ h
      rw [e1, e2, hex, ← EReal.coe_neg, ← Int.cast_neg, pow_two, pow_two, power_eq _ (by omega), power_eq _ (by omega),
        if_neg (by omega), if_neg (by omega), if_neg (by omega), if_neg (by omega)]
      constructor
      · congr 2; push_cast; ring
      · congr 2; omega
  · -- an infinite quotient
    have hb255 : b = 255 := by
      have := (hs 255 (by norm_num)).1 (by rw [htop]; exact le_top)
      omega
    refine edge (by rw [hb255]; decide) ?_
    unfold refExponent
    rw [if_pos (Or.inr (Or.inr htop))]

end Cert.Proof.Scale
-- ==== Proof.RefScale.lean ====
module

public import proofs.«01_k».proof.Proof.Scale
public import proofs.«01_k».proof.Proof.Gen.ReferenceIdeal.Value
public import Idealize.ShloMosaic.Lib.Pipeline.ValueKit
/-!
# The reference's scales

The host operations before the reference's one call compute each array's greatest magnitude, the exponent and the two
powers. Here these are named as functions of the argument, and the exponent is read as `Scale.refExponent`.
-/

@[expose] public section

set_option maxRecDepth 16384

noncomputable section

namespace Cert.Proof.RefScale

open Idealize.ShloMosaic Cert.ReferenceIdeal Cert.ReferenceIdeal.Gen

/-- The exponent as the reference's operations compute it, from the greatest magnitude and the quotient. -/
def expVec (a t : FVec Ideal S_ .f32) : FVec Ideal S_ .f32 :=
  select (ori (ori (cmpf .oeq a (constant S_ .f32 0x00000000#32)) (cmpf .olt t (constant S_ .f32 0x00800000#32)))
      (cmpf .oeq t (constant S_ .f32 0x7F800000#32)))
    (constant S_ .f32 0x00000000#32)
    (addf (Host.floor (Host.divf (Host.log t) (Host.log (constant S_ .f32 0x40000000#32)))) (constant S_ .f32 0x3F800000#32))

/-- Two to a power. -/
def powVec (e : FVec Ideal S_ .f32) : FVec Ideal S_ .f32 := Host.powf (constant S_ .f32 0x40000000#32) e

/-- The greatest magnitude of `dy`. -/
def amaxDy (x : FVec Ideal S2x8192x9216 .bf16) : FVec Ideal S_ .f32 :=
  Host.reduce FloatOps.maximumf (Host.absf (extf .f32 x bitsLt_bf16_f32)) (constant S_ .f32 0xFF800000#32)
    reducesTo_S2x8192x9216_S_d0_1_2 h_S_

/-- The greatest magnitude of `w`. -/
def amaxW (x : FVec Ideal S7168x9216 .bf16) : FVec Ideal S_ .f32 :=
  Host.reduce FloatOps.maximumf (Host.absf (extf .f32 x bitsLt_bf16_f32)) (constant S_ .f32 0xFF800000#32)
    reducesTo_S7168x9216_S_d0_1 h_S_

/-- The exponent for `dy`. -/
def expDy (x : FVec Ideal S2x8192x9216 .bf16) : FVec Ideal S_ .f32 :=
  expVec (amaxDy x) (mulf (amaxDy x) (constant S_ .f32 0x37924925#32))

/-- The exponent for `w`. -/
def expW (x : FVec Ideal S7168x9216 .bf16) : FVec Ideal S_ .f32 :=
  expVec (amaxW x) (mulf (amaxW x) (constant S_ .f32 0x3B124925#32))

variable (m : (ℓ : Loc nD τ sig) → Buf (Elt Ideal) ℓ) (c : Dev nD)

/-- The scale of `dy`. -/
theorem V_v15 : V m c main_v15 = powVec (expDy (m (c.tc.loc main_arg0))) := by
  unfold V
  simp only [hostOps0, hostOps0_1, hostOps0_2, hostOps0_3, hostOps0_4, List.flatten_cons, List.flatten_nil,
    List.cons_append, List.nil_append, List.append_nil]
  after_results
  obtain ⟨x, hx⟩ : ∃ x, m (c, Proc.tc.devRef main_arg0) = x := ⟨_, rfl⟩
  rw [hx]
  unfold powVec expDy expVec amaxDy
  generalize Host.reduce _ _ _ _ _ = a
  rfl

/-- The scale of `w`. -/
theorem V_v33 : V m c main_v33 = powVec (expW (m (c.tc.loc main_arg1))) := by
  unfold V
  simp only [hostOps0, hostOps0_1, hostOps0_2, hostOps0_3, hostOps0_4, List.flatten_cons, List.flatten_nil,
    List.cons_append, List.nil_append, List.append_nil]
  after_results
  obtain ⟨x, hx⟩ : ∃ x, m (c, Proc.tc.devRef main_arg1) = x := ⟨_, rfl⟩
  rw [hx]
  unfold powVec expW expVec amaxW
  generalize Host.reduce _ _ _ _ _ = a
  rfl

/-- The scale of `dy`, as the call takes it. -/
theorem V_v36 : V m c main_v36 = (shapeCast S1x1 (powVec (expDy (m (c.tc.loc main_arg0)))) shapeCasts_S_S1x1 : Vec Ideal S1x1 .f32) := by
  unfold V
  simp only [hostOps0, hostOps0_1, hostOps0_2, hostOps0_3, hostOps0_4, List.flatten_cons, List.flatten_nil,
    List.cons_append, List.nil_append, List.append_nil]
  after_results
  obtain ⟨x, hx⟩ : ∃ x, m (c, Proc.tc.devRef main_arg0) = x := ⟨_, rfl⟩
  rw [hx]
  unfold powVec expDy expVec amaxDy
  generalize Host.reduce _ _ _ _ _ = a
  rfl

/-- The inverse scale of `dy`, as the call takes it. -/
theorem V_v37 : V m c main_v37 = (shapeCast S1x1 (powVec (Host.negf (expDy (m (c.tc.loc main_arg0))))) shapeCasts_S_S1x1 : Vec Ideal S1x1 .f32) := by
  unfold V
  simp only [hostOps0, hostOps0_1, hostOps0_2, hostOps0_3, hostOps0_4, List.flatten_cons, List.flatten_nil,
    List.cons_append, List.nil_append, List.append_nil]
  after_results
  obtain ⟨x, hx⟩ : ∃ x, m (c, Proc.tc.devRef main_arg0) = x := ⟨_, rfl⟩
  rw [hx]
  unfold powVec expDy expVec amaxDy
  generalize Host.reduce _ _ _ _ _ = a
  rfl

/-- The scale of `w`, as the call takes it. -/
theorem V_v38 : V m c main_v38 = (shapeCast S1x1 (powVec (expW (m (c.tc.loc main_arg1)))) shapeCasts_S_S1x1 : Vec Ideal S1x1 .f32) := by
  unfold V
  simp only [hostOps0, hostOps0_1, hostOps0_2, hostOps0_3, hostOps0_4, List.flatten_cons, List.flatten_nil,
    List.cons_append, List.nil_append, List.append_nil]
  after_results
  obtain ⟨x, hx⟩ : ∃ x, m (c, Proc.tc.devRef main_arg1) = x := ⟨_, rfl⟩
  rw [hx]
  unfold powVec expW expVec amaxW
  generalize Host.reduce _ _ _ _ _ = a
  rfl

/-- The inverse scale of `w`, as the call takes it. -/
theorem V_v39 : V m c main_v39 = (shapeCast S1x1 (powVec (Host.negf (expW (m (c.tc.loc main_arg1))))) shapeCasts_S_S1x1 : Vec Ideal S1x1 .f32) := by
  unfold V
  simp only [hostOps0, hostOps0_1, hostOps0_2, hostOps0_3, hostOps0_4, List.flatten_cons, List.flatten_nil,
    List.cons_append, List.nil_append, List.append_nil]
  after_results
  obtain ⟨x, hx⟩ : ∃ x, m (c, Proc.tc.devRef main_arg1) = x := ⟨_, rfl⟩
  rw [hx]
  unfold powVec expW expVec amaxW
  generalize Host.reduce _ _ _ _ _ = a
  rfl

end Cert.Proof.RefScale
-- ==== Proof.ReferenceRun.lean ====
module

public import proofs.«01_k».proof.Proof.RefArrays
public import proofs.«01_k».proof.Proof.RefScale
/-!
# The reference's run

Every result after the reference's run, as a function of the two arguments.
-/

@[expose] public section

set_option maxRecDepth 16384

noncomputable section

namespace Cert.Proof.ReferenceRun

open Idealize.ShloMosaic Idealize.ShloMosaic.TcCoe Idealize.SL.Sem Cert.ReferenceIdeal Cert.ReferenceIdeal.Gen Cert.Proof.RefScale

variable (m : (ℓ : Loc nD τ sig) → Buf (Elt Ideal) ℓ) (ρ : Dev nD → PrngReg)

/-- The argument `dy`. -/
abbrev dy (c : Dev nD) : Vec Ideal S2x8192x9216 .bf16 := m (c.tc.loc main_arg0)

/-- The argument `w`. -/
abbrev wt (c : Dev nD) : Vec Ideal S7168x9216 .bf16 := m (c.tc.loc main_arg1)

/-- A scalar's one element, read after a reshape to `1 x 1`. -/
theorem one_apply (e : FVec Ideal S_ .f32) (j : S1x1.Idx) :
    (shapeCast S1x1 e shapeCasts_S_S1x1 : Vec Ideal S1x1 .f32) j = e (fun a => a.elim0) :=
  congrArg e (funext fun a => a.elim0)

/-- The results and the arguments after a run. -/
theorem results : θ_run defs (onTc (τ := τ) (main (F := Ideal))) ⟨m, fun _ => 0, ρ⟩ (fun r => ∀ c : Dev nD,
      r.2.mem ((c.tc : Thread nD τ).loc main_v40_0) = k0_pay3 (F := Ideal) (dy m c)
          (powVec (Host.negf (expDy (dy m c))) (fun a => a.elim0)) (wt m c) (powVec (Host.negf (expW (wt m c))) (fun a => a.elim0))
          (powVec (expDy (dy m c)) (fun a => a.elim0)) (powVec (expW (wt m c)) (fun a => a.elim0))
      ∧ r.2.mem ((c.tc : Thread nD τ).loc main_v40_1) = k0_pay1 (F := Ideal) (dy m c)
          (powVec (Host.negf (expDy (dy m c))) (fun a => a.elim0))
      ∧ r.2.mem ((c.tc : Thread nD τ).loc main_v15) = powVec (expDy (dy m c))
      ∧ r.2.mem ((c.tc : Thread nD τ).loc main_v40_2) = k0_pay2 (F := Ideal) (wt m c)
          (powVec (Host.negf (expW (wt m c))) (fun a => a.elim0))
      ∧ r.2.mem ((c.tc : Thread nD τ).loc main_v33) = powVec (expW (wt m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  have f6 := RefArrays.final6 m c (dy m c) (wt m c) _ _ _ _ (V_main_arg0 m c) (V_main_arg1 m c) (V_v36 m c) (V_v37 m c)
    (V_v38 m c) (V_v39 m c)
  have f7 := RefArrays.final7 m c (dy m c) _ (V_main_arg0 m c) (V_v37 m c)
  have f8 := RefArrays.final8 m c (wt m c) _ (V_main_arg1 m c) (V_v39 m c)
  rw [one_apply, one_apply, one_apply, one_apply] at f6
  rw [one_apply] at f7 f8
  exact ⟨(Cert.ReferenceIdeal.Value.post6 m r h c).trans f6, (Cert.ReferenceIdeal.Value.post7 m r h c).trans f7,
    ((h c).2 main_v15 (by decide)).trans (V_v15 m c), (Cert.ReferenceIdeal.Value.post8 m r h c).trans f8,
    ((h c).2 main_v33 (by decide)).trans (V_v33 m c), Cert.ReferenceIdeal.Value.kept_main_arg0 m r h c,
    Cert.ReferenceIdeal.Value.kept_main_arg1 m r h c⟩

end Cert.Proof.ReferenceRun
-- ==== Proof.Greatest.lean ====
module

public import proofs.«01_k».proof.Proof.Gen.KernelIdeal.Skeleton
public import Idealize.ShloMosaic.Lib.Pipeline.ValueKit
/-!
# The greatest magnitude, block by block

A maximum `M` over an array is described by its upper bounds: `M ≤ z` exactly when every element is at most `z`.
This module gives that description for the operations the two `amax` calls are made of, for one step of the
accumulation (`k0_pay2`, `k2_pay2`) and for the last maximum (`k1_pay2`, `k3_pay2`).
-/

@[expose] public section

set_option maxRecDepth 16384

noncomputable section

namespace Cert.Proof.Greatest

open Idealize.ShloMosaic Cert.KernelIdeal Cert.KernelIdeal.Gen

/-- `z` bounds every element of the array from above. -/
def Below {s : Shape} (x : s.Idx → EReal) (z : EReal) : Prop := ∀ i, x i ≤ z

/-- The magnitudes of an array. -/
def mag {s : Shape} (x : s.Idx → EReal) : s.Idx → EReal := fun i => max (x i) (-(x i))

/-- A magnitude is not negative. -/
theorem mag_nonneg {s : Shape} (x : s.Idx → EReal) (i : s.Idx) : 0 ≤ mag x i := by
  unfold mag
  rcases le_total 0 (x i) with h | h
  · exact le_max_of_le_left h
  · exact le_max_of_le_right (by rw [← neg_zero]; exact EReal.neg_le_neg_iff.2 h)

/-- Another shape for the same elements has the same bounds. -/
theorem below_shapeCast {s t : Shape} (x : s.Idx → EReal) (h : s.ShapeCasts t) (z : EReal) :
    Below (shapeCast t x h) z ↔ Below x z :=
  ⟨fun hb i => by simpa [shapeCast] using hb ((Shape.reshapeEquiv h).symm i), fun hb j => hb _⟩

/-- A maximum over some axes, started at the least value, has the bounds of its operand. -/
theorem below_multiReduction {s t : Shape} {φ : FTy} {axes : List (Fin s.rank)} (x : FVec Ideal s φ) (acc : BitVec φ.bits)
    (h : s.Reduces axes t) (hφ : FKind.Formats φ) (hacc : acc = FKind.maximumf.neutral φ hφ)
    (hbot : Ideal.ofBits φ acc = ⊥) (z : EReal) :
    Below (multiReduction .maximumf axes t x acc h hφ hacc : FVec Ideal t φ) z ↔ Below (s := s) x z := by
  have hfold : ∀ j, (multiReduction .maximumf axes t x acc h hφ hacc : FVec Ideal t φ) j
      = (Finset.univ.filter fun i => h.drop i = j).fold (max : EReal → EReal → EReal) (Ideal.ofBits φ acc) x := fun j => by
    rw [multiReduction_maximumf_eq_reduceFold]
    exact reduceFold_eq_fold h (max : EReal → EReal → EReal) (Ideal.ofBits φ acc) x j
  constructor
  · intro hb i
    have := hb (h.drop i)
    rw [hfold, Finset.fold_max_le] at this
    exact this.2 i (by simp)
  · intro hb j
    rw [hfold, Finset.fold_max_le, hbot]
    exact ⟨bot_le, fun i _ => hb i⟩

/-- The host's maximum over all of an array, started at the least value. -/
theorem hostReduce_le {s t u : Shape} {axes : List (Fin s.rank)} [Subsingleton t.Idx] (x : s.Idx → EReal) (init : u.Idx → EReal)
    (h : s.ReducesTo axes t) (hu : 0 < u.numel) (hbot : ∀ i, init i = ⊥) (j : t.Idx) (z : EReal) :
    Host.reduce (max : EReal → EReal → EReal) x init h hu j ≤ z ↔ Below x z := by
  rw [Host.reduce_eq_fold, Finset.fold_max_le, hbot]
  exact ⟨fun hb i => hb.2 i (by simp only [Finset.mem_filter, Finset.mem_univ, true_and]; exact Subsingleton.elim _ _),
    fun hb => ⟨bot_le, fun i _ => hb i⟩⟩

/-- The pattern of minus infinity, in `bf16`. -/
theorem bot_bf16 : Ideal.ofBits .bf16 0xFF80#16 = ⊥ := by
  simp [Ideal.ofBits, Ideal.ieee]

/-- The pattern of minus infinity, in `f32`. -/
theorem bot_f32 : Ideal.ofBits .f32 0xFF800000#32 = ⊥ := by
  simp [Ideal.ofBits, Ideal.ieee]

/-- The two halves of sixteen rows hold all of them. -/
theorem below_halves (v : FVec Ideal S16x128 .f32) (z : EReal) :
    Below (s := S8x128) (maximumf (extractStridedSlice S8x128 ![0, 0] v slices_S16x128_o0_0_S8x128 : FVec Ideal S8x128 .f32)
      (extractStridedSlice S8x128 ![8, 0] v slices_S16x128_o8_0_S8x128 : FVec Ideal S8x128 .f32)) z ↔ Below (s := S16x128) v z := by
  constructor
  · intro hb i
    have h0 : (i 0 : ℕ) < 16 := (i 0).isLt
    have h1 : (i 1 : ℕ) < 128 := (i 1).isLt
    by_cases hlt : (i 0 : ℕ) < 8
    · refine le_trans (le_of_eq (congrArg v ?_)) ((le_max_left _ _).trans (hb (fun a => ⟨if a.val = 0 then (i 0 : ℕ) else (i 1 : ℕ), ?_⟩)))
      · funext a; apply Fin.ext
        fin_cases a <;> simp
      · fin_cases a
        · simpa using hlt
        · simpa using h1
    · refine le_trans (le_of_eq (congrArg v ?_)) ((le_max_right _ _).trans (hb (fun a => ⟨if a.val = 0 then (i 0 : ℕ) - 8 else (i 1 : ℕ), ?_⟩)))
      · funext a; apply Fin.ext
        fin_cases a
        · simp; omega
        · simp
      · fin_cases a
        · simp; show (i 0 : ℕ) - 8 < 8; omega
        · simpa using h1
  · intro hb j
    exact max_le (hb _) (hb _)

/-- The bounds of an elementwise maximum. -/
theorem below_max {s : Shape} {φ : FTy} (f g : FVec Ideal s φ) (z : EReal) :
    Below (s := s) (maximumf f g) z ↔ Below (s := s) f z ∧ Below (s := s) g z :=
  ⟨fun h => ⟨fun j => (le_max_left _ _).trans (h j), fun j => (le_max_right _ _).trans (h j)⟩,
    fun h j => max_le (h.1 j) (h.2 j)⟩

/-- A change of format changes no bound. -/
theorem below_extf {s : Shape} {φ ψ : FTy} (f : FVec Ideal s φ) (h : φ.bits < ψ.bits) (z : EReal) :
    Below (s := s) (extf ψ f h) z ↔ Below (s := s) f z := Iff.rfl

/-- The absolute values are the magnitudes. -/
theorem below_absf {s : Shape} {φ : FTy} (f : FVec Ideal s φ) (z : EReal) :
    Below (s := s) (absf f) z ↔ Below (mag (s := s) f) z := Iff.rfl

/-- One accumulation step over a block of `w`: the new bounds are those of the old maxima and of the block. -/
theorem below_k2_pay2 (x : Vec Ideal S512x9216 .bf16) (acc : Vec Ideal S8x128 .f32) (z : EReal) :
    Below (s := S8x128) (k2_pay2 (F := Ideal) x acc) z ↔ Below (s := S8x128) acc z ∧ Below (mag (s := S512x9216) x) z := by
  unfold k2_pay2
  refine (below_max _ _ z).trans (and_congr (below_shapeCast _ _ z) ((below_halves _ z).trans ?_))
  refine (below_extf _ _ z).trans ((below_multiReduction _ _ _ _ _ bot_bf16 z).trans ((below_shapeCast _ _ z).trans ?_))
  exact (below_multiReduction _ _ _ _ _ bot_bf16 z).trans ((below_shapeCast _ _ z).trans (below_absf _ z))

/-- One accumulation step over a block of `dy`: the new bounds are those of the old maxima and of the block. -/
theorem below_k0_pay2 (x : Vec Ideal S512x9216 .bf16) (acc : Vec Ideal S8x128 .f32) (z : EReal) :
    Below (s := S8x128) (k0_pay2 (F := Ideal) x acc) z ↔ Below (s := S8x128) acc z ∧ Below (mag (s := S512x9216) x) z := by
  unfold k0_pay2
  rw [shapeCast_self]
  refine (below_max _ _ z).trans (and_congr (below_shapeCast _ _ z) ((below_halves _ z).trans ?_))
  refine (below_extf _ _ z).trans ((below_multiReduction _ _ _ _ _ bot_bf16 z).trans ((below_shapeCast _ _ z).trans ?_))
  exact (below_multiReduction _ _ _ _ _ bot_bf16 z).trans ((below_shapeCast _ _ z).trans (below_absf _ z))

/-- The accumulation starts from zeros. -/
theorem below_zero (z : EReal) : Below (s := S8x128) (k0_pay1 (F := Ideal)) z ↔ 0 ≤ z := by
  have e : k0_pay1 (F := Ideal) = fun _ => (0 : EReal) := by
    funext j
    exact Ideal.ofBits_zero_f32
  rw [e]
  exact ⟨fun h => h (fun a => ⟨0, by fin_cases a <;> decide⟩), fun h _ => h⟩

/-- The accumulation starts from zeros. -/
theorem below_zero' (z : EReal) : Below (s := S8x128) (k2_pay1 (F := Ideal)) z ↔ 0 ≤ z := below_zero z

/-- A value read at the one position of a `1 x 1 x 1` array has the bounds of that array. -/
theorem extractAt_le (x : S1x1x1.Idx → EReal) (z : EReal) : extractAt ![0, 0, 0] x inpos_S1x1x1_p0_0_0 ≤ z ↔ Below x z := by
  constructor
  · intro h j
    have hj : j = fun a => ⟨(![0, 0, 0] : Fin 3 → ℕ) a, inpos_S1x1x1_p0_0_0 a⟩ := by
      funext a; apply Fin.ext
      fin_cases a
      · exact Nat.lt_one_iff.1 (j 0).isLt
      · exact Nat.lt_one_iff.1 (j 1).isLt
      · exact Nat.lt_one_iff.1 (j 2).isLt
    rw [hj]; exact h
  · intro h; exact h _

/-- A number in every place times a constant in every place. -/
theorem mul_const {s : Shape} {φ : FTy} (x c : Ideal φ) (j : s.Idx) :
    (mulf (broadcast s x) (broadcast s c) : FVec Ideal s φ) j = x * c := rfl

/-- The quantisation of `dy` takes its exponent from the greatest of the maxima, times a constant. -/
theorem greatest1 (v : Vec Ideal S8x128 .f32) : ∃ g : EReal, (∀ z, g ≤ z ↔ Below (s := S8x128) v z)
    ∧ ∀ j, k1_pay2 (F := Ideal) v j = g * Scalar.ofBits (F := Ideal) .f32 0x37924925#32 := by
  apply Exists.intro
  apply And.intro
  rotate_left
  · intro j
    unfold k1_pay2
    exact mul_const _ _ j
  · intro z
    refine (extractAt_le _ z).trans ((below_shapeCast _ _ z).trans ((below_multiReduction _ _ _ _ _ bot_f32 z).trans ?_))
    exact (below_shapeCast _ _ z).trans (below_shapeCast _ _ z)

/-- The quantisation of `w` takes its exponent from the greatest of the maxima, times a constant. -/
theorem greatest3 (v : Vec Ideal S8x128 .f32) : ∃ g : EReal, (∀ z, g ≤ z ↔ Below (s := S8x128) v z)
    ∧ ∀ j, k3_pay2 (F := Ideal) v j = g * Scalar.ofBits (F := Ideal) .f32 0x3B124925#32 := by
  apply Exists.intro
  apply And.intro
  rotate_left
  · intro j
    unfold k3_pay2
    exact mul_const _ _ j
  · intro z
    refine (extractAt_le _ z).trans ((below_shapeCast _ _ z).trans ((below_multiReduction _ _ _ _ _ bot_f32 z).trans ?_))
    exact (below_shapeCast _ _ z).trans (below_shapeCast _ _ z)

end Cert.Proof.Greatest
-- ==== Proof.AmaxRun.lean ====
module

public import proofs.«01_k».proof.Proof.Greatest
public import proofs.«01_k».proof.Proof.Gen.KernelIdeal.Frame
public import Idealize.ShloMosaic.Lib.Pipeline.ValueKit
/-!
# The two `amax` calls

Each walks its array block of rows by block of rows and keeps elementwise maxima. A number bounds the array of
maxima from above exactly when it is at least zero and bounds every magnitude of the array read.
-/

@[expose] public section

set_option maxRecDepth 16384

noncomputable section

namespace Cert.Proof.Amax

open Idealize.ShloMosaic Cert.KernelIdeal Cert.KernelIdeal.Gen Cert.Proof.Greatest

variable (V : (c : Dev nD) → (b : Ref sig .tc) → Buf (Elt Ideal) (c.tc.loc b))

/-- After point `n` of `amax` of `dy`: the bound of the accumulator is the bound of the blocks read so far. -/
theorem acc0 (c : Dev nD) (z : EReal) : ∀ (n : ℕ) (hn : n < cfg0.N),
    Below (s := S8x128) (outsAt0 V c n hn) z ↔
      0 ≤ z ∧ ∀ s : Fin cfg0.N, s.val ≤ n → Below (mag (show Vec Ideal S512x9216 .bf16 from iblk0 V c 0 s)) z := by
  intro n
  induction n with
  | zero =>
    intro hn
    rw [outsAt0_A V c ⟨0, hn⟩ rfl]
    frame_out
    rw [below_k0_pay2, below_zero]
    refine and_congr_right fun _ => ⟨fun h s hs => ?_, fun h => h ⟨0, hn⟩ le_rfl⟩
    have : s = ⟨0, hn⟩ := Fin.ext (Nat.le_zero.1 hs)
    rw [this]; exact h
  | succ n ih =>
    intro hn
    have hN : n + 1 < 32 := lt_of_lt_of_eq hn N_0
    rw [outsAt0_B V c ⟨n + 1, hn⟩ (by show ¬ (n + 1) % 32 = 0; omega)]
    frame_out
    rw [below_k0_pay2]
    have e := ih (Nat.lt_of_succ_lt hn)
    simp only [Nat.add_sub_cancel] at e ⊢
    refine (and_congr_left' e).trans ?_
    refine ⟨fun h => ⟨h.1.1, fun s hs => ?_⟩, fun h => ⟨⟨h.1, fun s hs => h.2 s (by omega)⟩, h.2 ⟨n + 1, hn⟩ le_rfl⟩⟩
    rcases Nat.lt_or_ge s.val (n + 1) with h1 | h1
    · exact h.1.2 s (by omega)
    · have : s = ⟨n + 1, hn⟩ := Fin.ext (by show s.val = n + 1; omega)
      rw [this]; exact h.2

/-- The block of rows that point `t` reads, and the one block of maxima. -/
theorem idx0 : ∀ t : Fin cfg0.N, win0_0.index t = ![t.val, 0] ∧ win0_1.index t = ![0, 0] :=
  (by decide +kernel : ∀ t : Fin grid0.N, win0_0.index t = ![t.val, 0] ∧ win0_1.index t = ![0, 0])

theorem last0 : 31 < cfg0.N := lt_of_lt_of_eq (by decide) N_0.symm

/-- The array of maxima of `dy` is the accumulator after the last point. -/
theorem final0 (c : Dev nD) : (dat0 V c).arrAt 1 cfg0.N = (show Vec Ideal S8x128 .f32 from outsAt0 V c 31 last0) := by
  refine (dat0 V c).arrAt_eq_of_covers 1 _ (by decide +kernel) fun t hf y => ?_
  have ht : t.val = 31 := by
    have h1 := (flush0_1 t).mp hf
    have h2 : t.val < 32 := lt_of_lt_of_eq t.isLt N_0
    omega
  have e : outsAt0 V c t.val t.isLt = outsAt0 V c 31 last0 :=
    (fun n hn (h : n = 31) => by subst h; rfl : ∀ (n : ℕ) (hn : n < cfg0.N), n = 31 → outsAt0 V c n hn = outsAt0 V c 31 last0) t.val t.isLt ht
  blk_simp
  rw [after0_1, e]
  blk_ext [idx0 t]

/-- The blocks read cover the array. -/
theorem blocks0 (c : Dev nD) (z : EReal) :
    (∀ s : Fin cfg0.N, Below (mag (show Vec Ideal S512x9216 .bf16 from iblk0 V c 0 s)) z)
      ↔ Below (mag (show Vec Ideal S16384x9216 .bf16 from V c main_v0)) z := by
  constructor
  · intro h i
    have i0 : (i 0 : ℕ) < 16384 := (i 0).isLt
    have hs : (i 0 : ℕ) / 512 < cfg0.N := lt_of_lt_of_eq (by omega) N_0.symm
    obtain_idx y : S512x9216 := [(i 0 : ℕ) % 512, (i 1 : ℕ)] with hy
    have e : (show Vec Ideal S512x9216 .bf16 from iblk0 V c 0 ⟨(i 0 : ℕ) / 512, hs⟩) y
        = (show Vec Ideal S16384x9216 .bf16 from V c main_v0) i := by
      blk_ext [iblk0, idx0 ⟨(i 0 : ℕ) / 512, hs⟩]
    have h1 := h ⟨(i 0 : ℕ) / 512, hs⟩ y
    unfold mag at h1 ⊢
    rw [e] at h1
    exact h1
  · intro h s y
    exact h ((win0_0.blk s).view.emb y)

/-- What bounds the array of maxima of `dy`. -/
theorem amax0 (c : Dev nD) (z : EReal) :
    Below (show Vec Ideal S8x128 .f32 from (dat0 V c).arrAt 1 cfg0.N) z
      ↔ 0 ≤ z ∧ Below (mag (show Vec Ideal S16384x9216 .bf16 from V c main_v0)) z := by
  rw [final0]
  refine (acc0 V c z 31 last0).trans (and_congr_right fun _ => ?_)
  rw [← blocks0]
  exact ⟨fun h s => h s (by have h2 : s.val < 32 := lt_of_lt_of_eq s.isLt N_0; omega), fun h s _ => h s⟩

/-- After point `n` of `amax` of `w`: the bound of the accumulator is the bound of the blocks read so far. -/
theorem acc2 (c : Dev nD) (z : EReal) : ∀ (n : ℕ) (hn : n < cfg2.N),
    Below (s := S8x128) (outsAt2 V c n hn) z ↔
      0 ≤ z ∧ ∀ s : Fin cfg2.N, s.val ≤ n → Below (mag (show Vec Ideal S512x9216 .bf16 from iblk2 V c 0 s)) z := by
  intro n
  induction n with
  | zero =>
    intro hn
    rw [outsAt2_A V c ⟨0, hn⟩ rfl]
    frame_out
    rw [below_k2_pay2, below_zero']
    refine and_congr_right fun _ => ⟨fun h s hs => ?_, fun h => h ⟨0, hn⟩ le_rfl⟩
    have : s = ⟨0, hn⟩ := Fin.ext (Nat.le_zero.1 hs)
    rw [this]; exact h
  | succ n ih =>
    intro hn
    have hN : n + 1 < 14 := lt_of_lt_of_eq hn N_2
    rw [outsAt2_B V c ⟨n + 1, hn⟩ (by show ¬ (n + 1) % 14 = 0; omega)]
    frame_out
    rw [below_k2_pay2]
    have e := ih (Nat.lt_of_succ_lt hn)
    simp only [Nat.add_sub_cancel] at e ⊢
    refine (and_congr_left' e).trans ?_
    refine ⟨fun h => ⟨h.1.1, fun s hs => ?_⟩, fun h => ⟨⟨h.1, fun s hs => h.2 s (by omega)⟩, h.2 ⟨n + 1, hn⟩ le_rfl⟩⟩
    rcases Nat.lt_or_ge s.val (n + 1) with h1 | h1
    · exact h.1.2 s (by omega)
    · have : s = ⟨n + 1, hn⟩ := Fin.ext (by show s.val = n + 1; omega)
      rw [this]; exact h.2

/-- The block of rows that point `t` reads, and the one block of maxima. -/
theorem idx2 : ∀ t : Fin cfg2.N, win2_0.index t = ![t.val, 0] ∧ win2_1.index t = ![0, 0] :=
  (by decide +kernel : ∀ t : Fin grid2.N, win2_0.index t = ![t.val, 0] ∧ win2_1.index t = ![0, 0])

theorem last2 : 13 < cfg2.N := lt_of_lt_of_eq (by decide) N_2.symm

/-- The array of maxima of `w` is the accumulator after the last point. -/
theorem final2 (c : Dev nD) : (dat2 V c).arrAt 1 cfg2.N = (show Vec Ideal S8x128 .f32 from outsAt2 V c 13 last2) := by
  refine (dat2 V c).arrAt_eq_of_covers 1 _ (by decide +kernel) fun t hf y => ?_
  have ht : t.val = 13 := by
    have h1 := (flush2_1 t).mp hf
    have h2 : t.val < 14 := lt_of_lt_of_eq t.isLt N_2
    omega
  have e : outsAt2 V c t.val t.isLt = outsAt2 V c 13 last2 :=
    (fun n hn (h : n = 13) => by subst h; rfl : ∀ (n : ℕ) (hn : n < cfg2.N), n = 13 → outsAt2 V c n hn = outsAt2 V c 13 last2) t.val t.isLt ht
  blk_simp
  rw [after2_1, e]
  blk_ext [idx2 t]

/-- The blocks read cover the array. -/
theorem blocks2 (c : Dev nD) (z : EReal) :
    (∀ s : Fin cfg2.N, Below (mag (show Vec Ideal S512x9216 .bf16 from iblk2 V c 0 s)) z)
      ↔ Below (mag (show Vec Ideal S7168x9216 .bf16 from V c main_arg1)) z := by
  constructor
  · intro h i
    have i0 : (i 0 : ℕ) < 7168 := (i 0).isLt
    have hs : (i 0 : ℕ) / 512 < cfg2.N := lt_of_lt_of_eq (by omega) N_2.symm
    obtain_idx y : S512x9216 := [(i 0 : ℕ) % 512, (i 1 : ℕ)] with hy
    have e : (show Vec Ideal S512x9216 .bf16 from iblk2 V c 0 ⟨(i 0 : ℕ) / 512, hs⟩) y
        = (show Vec Ideal S7168x9216 .bf16 from V c main_arg1) i := by
      blk_ext [iblk2, idx2 ⟨(i 0 : ℕ) / 512, hs⟩]
    have h1 := h ⟨(i 0 : ℕ) / 512, hs⟩ y
    unfold mag at h1 ⊢
    rw [e] at h1
    exact h1
  · intro h s y
    exact h ((win2_0.blk s).view.emb y)

/-- What bounds the array of maxima of `w`. -/
theorem amax2 (c : Dev nD) (z : EReal) :
    Below (show Vec Ideal S8x128 .f32 from (dat2 V c).arrAt 1 cfg2.N) z
      ↔ 0 ≤ z ∧ Below (mag (show Vec Ideal S7168x9216 .bf16 from V c main_arg1)) z := by
  rw [final2]
  refine (acc2 V c z 13 last2).trans (and_congr_right fun _ => ?_)
  rw [← blocks2]
  exact ⟨fun h s => h s (by have h2 : s.val < 14 := lt_of_lt_of_eq s.isLt N_2; omega), fun h s _ => h s⟩

end Cert.Proof.Amax
-- ==== Proof.Exponent.lean ====
module

public import proofs.«01_k».proof.Proof.Scale
/-!
# The exponent in the kernel's vector operations

The two `quantise` calls search the exponent on `1 x 1` vectors. Here each of their stored scalars is read as the
number of `Scale`: `k1_pay7`, `k3_pay7` are the scale and `k1_pay8`, `k3_pay8` the inverse scale.
-/

@[expose] public section

set_option maxRecDepth 16384

noncomputable section

namespace Cert.Proof.Exponent

open Idealize.ShloMosaic Cert.KernelIdeal Cert.KernelIdeal.Gen Cert.Proof.Scale

/-- A choice by a comparison of numbers. -/
theorem select_oge {α : Type} (x y : EReal) (a b : α) :
    Scalar.select (Ideal.cmp .oge x y) a b = if y ≤ x then a else b := by
  unfold Scalar.select Ideal.cmp
  by_cases h : y ≤ x <;> simp [h]

/-- One step of the search on vectors. -/
theorem step_apply {s : Shape} (t : FVec Ideal s .f32) (f : IVec s 32) (c : BitVec 32) (j : s.Idx) :
    select (cmpf .oge t (bitcastToFloat .f32 (shli (ori f (broadcast s c)) (broadcast s 23#32)) : FVec Ideal s .f32))
      (ori f (broadcast s c)) f j = step (t j) (f j) c :=
  select_oge (t j) (power (f j ||| c)) (f j ||| c) (f j)

/-- The comparison of one step, and the choice by it made later. -/
theorem step_apply' {s : Shape} (t : FVec Ideal s .f32) (f : IVec s 32) (c : BitVec 32) (j : s.Idx) (g : BitVec 32)
    (hf : f j = g) :
    select (cmpf .oge t (bitcastToFloat .f32 (shli (ori f (broadcast s c)) (broadcast s 23#32)) : FVec Ideal s .f32))
      (ori f (broadcast s c)) f j = step (t j) g c := by
  rw [step_apply, hf]

/-- The exponent on vectors, from the field. -/
theorem exponent_apply {s : Shape} (b : IVec s 32) (j : s.Idx) (g : BitVec 32) (hb : b j = g) :
    select (ori (cmpi .eq b (broadcast s 0#32)) (cmpi .eq b (broadcast s 255#32))) (broadcast s 0#32)
      (subi b (broadcast s 126#32)) j = exponent g := by
  subst hb
  show Scalar.select (BitVec.ofBool (b j == 0#32) ||| BitVec.ofBool (b j == 255#32)) 0#32 (b j - 126#32) = _
  unfold Scalar.select exponent
  by_cases h0 : b j = 0#32
  · simp [h0]
  · by_cases h1 : b j = 255#32
    · simp [h1]
    · have e0 : (b j == 0#32) = false := by simpa using h0
      have e1 : (b j == 255#32) = false := by simpa using h1
      rw [e0, e1, if_neg (by decide), if_neg (by rintro (h | h); exacts [h0 h, h1 h])]
      rfl

/-- The scale on vectors. -/
theorem scale_apply {s : Shape} (e : IVec s 32) (j : s.Idx) (g : BitVec 32) (he : e j = g) :
    (bitcastToFloat .f32 (shli (addi (broadcast s 127#32) e) (broadcast s 23#32)) : FVec Ideal s .f32) j
      = power (127#32 + g) := by
  subst he
  rfl

/-- The inverse scale on vectors. -/
theorem inverse_apply {s : Shape} (e : IVec s 32) (j : s.Idx) (g : BitVec 32) (he : e j = g) :
    (bitcastToFloat .f32 (shli (subi (broadcast s 127#32) e) (broadcast s 23#32)) : FVec Ideal s .f32) j
      = power (127#32 - g) := by
  subst he
  rfl

/-- The first four steps of the search, for `dy`. -/
theorem k1_pay3_apply (v : Vec Ideal S8x128 .f32) (j : S1x1.Idx) : k1_pay3 (F := Ideal) v j =
    step (k1_pay2 (F := Ideal) v j) (step (k1_pay2 (F := Ideal) v j) (step (k1_pay2 (F := Ideal) v j)
      (step (k1_pay2 (F := Ideal) v j) 0 128) 64) 32) 16 := by
  unfold k1_pay3
  exact step_apply' _ _ _ j _ (step_apply' _ _ _ j _ (step_apply' _ _ _ j _ (step_apply' _ _ _ j _ rfl)))

/-- The whole search, for `dy`. -/
theorem k1_pay6_apply (v : Vec Ideal S8x128 .f32) (j : S1x1.Idx) :
    k1_pay6 (F := Ideal) (k1_pay2 v) (k1_pay3 (F := Ideal) v) (k1_pay4 (F := Ideal) v) (k1_pay5 (F := Ideal) v) j
      = exponent (field (k1_pay2 (F := Ideal) v j)) := by
  unfold k1_pay6 k1_pay5 k1_pay4
  exact exponent_apply _ j _ (step_apply' _ _ _ j _ (step_apply' _ _ _ j _ (step_apply' _ _ _ j _
    (step_apply' _ _ _ j _ (k1_pay3_apply v j)))))

/-- The stored scale, for `dy`. -/
theorem k1_pay7_apply (v : Vec Ideal S8x128 .f32) (j : S1x1.Idx) :
    k1_pay7 (F := Ideal) (k1_pay2 v) (k1_pay3 (F := Ideal) v) (k1_pay4 (F := Ideal) v) (k1_pay5 (F := Ideal) v) j
      = power (127#32 + exponent (field (k1_pay2 (F := Ideal) v j))) := by
  unfold k1_pay7
  exact scale_apply _ j _ (k1_pay6_apply v j)

/-- The inverse scale, for `dy`. -/
theorem k1_pay8_apply (v : Vec Ideal S8x128 .f32) (j : S1x1.Idx) :
    k1_pay8 (F := Ideal) (k1_pay2 v) (k1_pay3 (F := Ideal) v) (k1_pay4 (F := Ideal) v) (k1_pay5 (F := Ideal) v) j
      = power (127#32 - exponent (field (k1_pay2 (F := Ideal) v j))) := by
  unfold k1_pay8
  exact inverse_apply _ j _ (k1_pay6_apply v j)

/-- The first four steps of the search, for `w`. -/
theorem k3_pay3_apply (v : Vec Ideal S8x128 .f32) (j : S1x1.Idx) : k3_pay3 (F := Ideal) v j =
    step (k3_pay2 (F := Ideal) v j) (step (k3_pay2 (F := Ideal) v j) (step (k3_pay2 (F := Ideal) v j)
      (step (k3_pay2 (F := Ideal) v j) 0 128) 64) 32) 16 := by
  unfold k3_pay3
  exact step_apply' _ _ _ j _ (step_apply' _ _ _ j _ (step_apply' _ _ _ j _ (step_apply' _ _ _ j _ rfl)))

/-- The whole search, for `w`. -/
theorem k3_pay6_apply (v : Vec Ideal S8x128 .f32) (j : S1x1.Idx) :
    k3_pay6 (F := Ideal) (k3_pay2 v) (k3_pay3 (F := Ideal) v) (k3_pay4 (F := Ideal) v) (k3_pay5 (F := Ideal) v) j
      = exponent (field (k3_pay2 (F := Ideal) v j)) := by
  unfold k3_pay6 k3_pay5 k3_pay4
  exact exponent_apply _ j _ (step_apply' _ _ _ j _ (step_apply' _ _ _ j _ (step_apply' _ _ _ j _
    (step_apply' _ _ _ j _ (k3_pay3_apply v j)))))

/-- The stored scale, for `w`. -/
theorem k3_pay7_apply (v : Vec Ideal S8x128 .f32) (j : S1x1.Idx) :
    k3_pay7 (F := Ideal) (k3_pay2 v) (k3_pay3 (F := Ideal) v) (k3_pay4 (F := Ideal) v) (k3_pay5 (F := Ideal) v) j
      = power (127#32 + exponent (field (k3_pay2 (F := Ideal) v j))) := by
  unfold k3_pay7
  exact scale_apply _ j _ (k3_pay6_apply v j)

/-- The inverse scale, for `w`. -/
theorem k3_pay8_apply (v : Vec Ideal S8x128 .f32) (j : S1x1.Idx) :
    k3_pay8 (F := Ideal) (k3_pay2 v) (k3_pay3 (F := Ideal) v) (k3_pay4 (F := Ideal) v) (k3_pay5 (F := Ideal) v) j
      = power (127#32 - exponent (field (k3_pay2 (F := Ideal) v j))) := by
  unfold k3_pay8
  exact inverse_apply _ j _ (k3_pay6_apply v j)

end Cert.Proof.Exponent
-- ==== Proof.Quantise.lean ====
module

public import proofs.«01_k».proof.Proof.Exponent
public import proofs.«01_k».proof.Proof.Gen.KernelIdeal.Frame
public import Idealize.ShloMosaic.Lib.Pipeline.ValueKit
/-!
# The two `quantise` calls

Each reads the array of maxima and one block of rows, and stores the block's codes and the scale.
-/

@[expose] public section

set_option maxRecDepth 16384

noncomputable section

namespace Cert.Proof.Quantise

open Idealize.ShloMosaic Cert.KernelIdeal Cert.KernelIdeal.Gen

variable (V : (c : Dev nD) → (b : Ref sig .tc) → Buf (Elt Ideal) (c.tc.loc b))

/-- An element of `dy` times the inverse scale, clipped to the range of `e5m2`. -/
def codeDy (x inv : EReal) : EReal :=
  min (Scalar.ofBits (F := Ideal) .f32 0x47600000#32) (max (Scalar.ofBits (F := Ideal) .f32 0xC7600000#32) (x * inv))

/-- An element of `w` times the inverse scale, clipped to the range of `e4m3`. -/
def codeW (x inv : EReal) : EReal :=
  min (Scalar.ofBits (F := Ideal) .f32 0x43E00000#32) (max (Scalar.ofBits (F := Ideal) .f32 0xC3E00000#32) (x * inv))

/-- The scale of `dy` that the kernel stores, from the array of maxima. -/
def scale1 (v : Vec Ideal S8x128 .f32) : FVec Ideal S1x1 .f32 :=
  k1_pay7 (F := Ideal) (k1_pay2 v) (k1_pay3 (F := Ideal) v) (k1_pay4 (F := Ideal) v) (k1_pay5 (F := Ideal) v)

/-- The inverse scale of `dy` that the kernel multiplies by. -/
def inv1 (v : Vec Ideal S8x128 .f32) : FVec Ideal S1x1 .f32 :=
  k1_pay8 (F := Ideal) (k1_pay2 v) (k1_pay3 (F := Ideal) v) (k1_pay4 (F := Ideal) v) (k1_pay5 (F := Ideal) v)

/-- The codes of one block of `dy`. -/
theorem k1_pay1_apply (i : FVec Ideal S1x1 .f32) (x : Vec Ideal S256x9216 .bf16) (j : S256x9216.Idx) :
    k1_pay1 (F := Ideal) i x j = codeDy (x j) (i (ix2 0 0)) := by
  unfold codeDy
  pointwise [k1_pay1]

/-- Which blocks point `t` reads and writes. -/
theorem idx1 : ∀ t : Fin cfg1.N, win1_0.index t = ![0, 0] ∧ win1_1.index t = ![t.val, 0] ∧ win1_2.index t = ![t.val, 0]
    ∧ win1_3.index t = ![0, 0] :=
  (by decide +kernel : ∀ t : Fin grid1.N, win1_0.index t = ![0, 0] ∧ win1_1.index t = ![t.val, 0]
    ∧ win1_2.index t = ![t.val, 0] ∧ win1_3.index t = ![0, 0])

/-- Every point reads the whole array of maxima of `dy`. -/
theorem maxima1 (c : Dev nD) (t : Fin cfg1.N) :
    (show Vec Ideal S8x128 .f32 from iblk1 V c 0 t) = (show Vec Ideal S8x128 .f32 from V c main_v1) := by
  blk_ext! [iblk1, idx1 t]

/-- The inverse scale as the run spells it. -/
theorem inv1_eq (x0 : Vec Ideal S8x128 .f32) (x1 : Vec Ideal S256x9216 .bf16) :
    k1_pay8 (F := Ideal) (k1_pay9 x0 x1) (k1_pay10 x0 x1) (k1_pay11 x0 x1) (k1_pay12 x0 x1) = inv1 x0 := by
  have e : View.ld x0 r1_0 = x0 := View.ld_unit_zero (by funext a; fin_cases a <;> rfl) _ _
  unfold k1_pay9 k1_pay10 k1_pay11 k1_pay12 inv1
  rw [e]

/-- The scale as the run spells it. -/
theorem scale1_eq (x0 : Vec Ideal S8x128 .f32) (x1 : Vec Ideal S256x9216 .bf16) :
    k1_pay7 (F := Ideal) (k1_pay9 x0 x1) (k1_pay10 x0 x1) (k1_pay11 x0 x1) (k1_pay12 x0 x1) = scale1 x0 := by
  have e : View.ld x0 r1_0 = x0 := View.ld_unit_zero (by funext a; fin_cases a <;> rfl) _ _
  unfold k1_pay9 k1_pay10 k1_pay11 k1_pay12 scale1
  rw [e]

/-- The codes of `dy`. -/
theorem codes1 (c : Dev nD) : (dat1 V c).arrAt 2 cfg1.N = fun j : S16384x9216.Idx =>
    codeDy ((show Vec Ideal S16384x9216 .bf16 from V c main_v0) j)
      (inv1 (show Vec Ideal S8x128 .f32 from V c main_v1) (ix2 0 0)) := by
  refine (dat1 V c).arrAt_eq_of_covers 2 _ (by decide +kernel) fun t hf y => ?_
  blk_simp
  rw [after1_2]
  frame_out
  refine (k1_pay1_apply _ _ _).trans ?_
  rw [inv1_eq]
  refine (congrArg (fun v => codeDy _ (inv1 v (ix2 0 0))) (maxima1 V c t)).trans ?_
  refine congrArg (codeDy · _) ?_
  blk_ext [iblk1, idx1 t]

/-- The scale of `dy`. -/
theorem stored1 (c : Dev nD) :
    (dat1 V c).arrAt 3 cfg1.N = scale1 (show Vec Ideal S8x128 .f32 from V c main_v1) := by
  refine (dat1 V c).arrAt_eq_of_covers 3 _ (by decide +kernel) fun t hf y => ?_
  blk_simp
  rw [after1_3]
  frame_out
  rw [scale1_eq]
  refine (congrFun (congrArg scale1 (maxima1 V c t)) _).trans ?_
  blk_ext [idx1 t]

/-- The scale of `w` that the kernel stores, from the array of maxima. -/
def scale3 (v : Vec Ideal S8x128 .f32) : FVec Ideal S1x1 .f32 :=
  k3_pay7 (F := Ideal) (k3_pay2 v) (k3_pay3 (F := Ideal) v) (k3_pay4 (F := Ideal) v) (k3_pay5 (F := Ideal) v)

/-- The inverse scale of `w` that the kernel multiplies by. -/
def inv3 (v : Vec Ideal S8x128 .f32) : FVec Ideal S1x1 .f32 :=
  k3_pay8 (F := Ideal) (k3_pay2 v) (k3_pay3 (F := Ideal) v) (k3_pay4 (F := Ideal) v) (k3_pay5 (F := Ideal) v)

/-- The codes of one block of `w`. -/
theorem k3_pay1_apply (i : FVec Ideal S1x1 .f32) (x : Vec Ideal S256x9216 .bf16) (j : S256x9216.Idx) :
    k3_pay1 (F := Ideal) i x j = codeW (x j) (i (ix2 0 0)) := by
  unfold codeW
  pointwise [k3_pay1]

/-- Which blocks point `t` reads and writes. -/
theorem idx3 : ∀ t : Fin cfg3.N, win3_0.index t = ![0, 0] ∧ win3_1.index t = ![t.val, 0] ∧ win3_2.index t = ![t.val, 0]
    ∧ win3_3.index t = ![0, 0] :=
  (by decide +kernel : ∀ t : Fin grid3.N, win3_0.index t = ![0, 0] ∧ win3_1.index t = ![t.val, 0]
    ∧ win3_2.index t = ![t.val, 0] ∧ win3_3.index t = ![0, 0])

/-- Every point reads the whole array of maxima of `w`. -/
theorem maxima3 (c : Dev nD) (t : Fin cfg3.N) :
    (show Vec Ideal S8x128 .f32 from iblk3 V c 0 t) = (show Vec Ideal S8x128 .f32 from V c main_v3) := by
  blk_ext! [iblk3, idx3 t]

/-- The inverse scale as the run spells it. -/
theorem inv3_eq (x0 : Vec Ideal S8x128 .f32) (x1 : Vec Ideal S256x9216 .bf16) :
    k3_pay8 (F := Ideal) (k3_pay9 x0 x1) (k3_pay10 x0 x1) (k3_pay11 x0 x1) (k3_pay12 x0 x1) = inv3 x0 := by
  have e : View.ld x0 r3_0 = x0 := View.ld_unit_zero (by funext a; fin_cases a <;> rfl) _ _
  unfold k3_pay9 k3_pay10 k3_pay11 k3_pay12 inv3
  rw [e]

/-- The scale as the run spells it. -/
theorem scale3_eq (x0 : Vec Ideal S8x128 .f32) (x1 : Vec Ideal S256x9216 .bf16) :
    k3_pay7 (F := Ideal) (k3_pay9 x0 x1) (k3_pay10 x0 x1) (k3_pay11 x0 x1) (k3_pay12 x0 x1) = scale3 x0 := by
  have e : View.ld x0 r3_0 = x0 := View.ld_unit_zero (by funext a; fin_cases a <;> rfl) _ _
  unfold k3_pay9 k3_pay10 k3_pay11 k3_pay12 scale3
  rw [e]

/-- The codes of `w`. -/
theorem codes3 (c : Dev nD) : (dat3 V c).arrAt 2 cfg3.N = fun j : S7168x9216.Idx =>
    codeW ((show Vec Ideal S7168x9216 .bf16 from V c main_arg1) j)
      (inv3 (show Vec Ideal S8x128 .f32 from V c main_v3) (ix2 0 0)) := by
  refine (dat3 V c).arrAt_eq_of_covers 2 _ (by decide +kernel) fun t hf y => ?_
  blk_simp
  rw [after3_2]
  frame_out
  refine (k3_pay1_apply _ _ _).trans ?_
  rw [inv3_eq]
  refine (congrArg (fun v => codeW _ (inv3 v (ix2 0 0))) (maxima3 V c t)).trans ?_
  refine congrArg (codeW · _) ?_
  blk_ext [iblk3, idx3 t]

/-- The scale of `w`. -/
theorem stored3 (c : Dev nD) :
    (dat3 V c).arrAt 3 cfg3.N = scale3 (show Vec Ideal S8x128 .f32 from V c main_v3) := by
  refine (dat3 V c).arrAt_eq_of_covers 3 _ (by decide +kernel) fun t hf y => ?_
  blk_simp
  rw [after3_3]
  frame_out
  rw [scale3_eq]
  refine (congrFun (congrArg scale3 (maxima3 V c t)) _).trans ?_
  blk_ext [idx3 t]

end Cert.Proof.Quantise
-- ==== Proof.Matmul.lean ====
module

public import proofs.«01_k».proof.Proof.Gen.KernelIdeal.Frame
public import Idealize.ShloMosaic.Lib.Pipeline.ValueKit
/-!
# The `fp8_matmul` call

Each point contracts a block of rows of the codes of `dy` with a block of rows of the codes of `w` and rescales.
-/

@[expose] public section

set_option maxRecDepth 16384

noncomputable section

namespace Cert.Proof.Matmul

open Idealize.ShloMosaic Cert.KernelIdeal Cert.KernelIdeal.Gen

variable (V : (c : Dev nD) → (b : Ref sig .tc) → Buf (Elt Ideal) (c.tc.loc b))

/-- One element of a block of the product. -/
theorem k4_pay1_apply (x : Vec Ideal S1024x9216 .fp8e5m2) (y : Vec Ideal S1024x9216 .fp8e4m3) (s s' : EReal)
    (j : S1x1024x1024.Idx) : k4_pay1 (F := Ideal) x y s s' j
      = (∑ k : Fin 9216, x (ix2 (j 1) k) * y (ix2 (j 2) k)) * (s * s') := by
  pointwise [k4_pay1]

/-- Which blocks point `t` reads and writes. -/
theorem idx4 : ∀ t : Fin cfg4.N, win4_0.index t = ![0, 0] ∧ win4_1.index t = ![0, 0]
    ∧ win4_2.index t = ![t.val / 7, 0] ∧ win4_3.index t = ![t.val % 7, 0]
    ∧ win4_4.index t = ![t.val / 56, t.val / 7 % 8, t.val % 7] :=
  (by decide +kernel : ∀ t : Fin grid4.N, win4_0.index t = ![0, 0] ∧ win4_1.index t = ![0, 0]
    ∧ win4_2.index t = ![t.val / 7, 0] ∧ win4_3.index t = ![t.val % 7, 0]
    ∧ win4_4.index t = ![t.val / 56, t.val / 7 % 8, t.val % 7])

/-- The rescaled product of `m` by `n`. -/
def product (x : Vec Ideal S16384x9216 .fp8e5m2) (y : Vec Ideal S7168x9216 .fp8e4m3) (s s' : EReal) :
    FVec Ideal S2x8192x7168 .bf16 := fun j =>
  (∑ k : Fin 9216, x (ix2 ⟨(j 0 : ℕ) * 8192 + (j 1 : ℕ), by
      have h0 : (j 0 : ℕ) < 2 := (j 0).isLt
      have h1 : (j 1 : ℕ) < 8192 := (j 1).isLt
      omega⟩ k) * y (ix2 (j 2) k)) * (s * s')

/-- The `1 x 1` vectors have one index. -/
theorem one_idx (i j : S1x1.Idx) : i = j := by
  funext a
  fin_cases a
  · exact Fin.ext (by have h1 := (i 0).isLt; have h2 := (j 0).isLt; change (i 0 : ℕ) < 1 at h1; change (j 0 : ℕ) < 1 at h2; show (i 0 : ℕ) = (j 0 : ℕ); omega)
  · exact Fin.ext (by have h1 := (i 1).isLt; have h2 := (j 1).isLt; change (i 1 : ℕ) < 1 at h1; change (j 1 : ℕ) < 1 at h2; show (i 1 : ℕ) = (j 1 : ℕ); omega)

/-- The scale of `dy` as a point reads it. -/
theorem smem0 (c : Dev nD) (t : Fin cfg4.N) (i : S1x1.Idx) : (show Vec Ideal S1x1 .f32 from iblk4 V c 0 t) i
    = (show Vec Ideal S1x1 .f32 from V c main_v2_1) (ix2 0 0) := by
  blk_ext [iblk4, idx4 t]

/-- The scale of `w` as a point reads it. -/
theorem smem1 (c : Dev nD) (t : Fin cfg4.N) (i : S1x1.Idx) : (show Vec Ideal S1x1 .f32 from iblk4 V c 1 t) i
    = (show Vec Ideal S1x1 .f32 from V c main_v4_1) (ix2 0 0) := by
  blk_ext [iblk4, idx4 t]

/-- The array the call leaves. -/
theorem final4 (c : Dev nD) : (dat4 V c).arrAt 4 cfg4.N = product
    (show Vec Ideal S16384x9216 .fp8e5m2 from V c main_v2_0) (show Vec Ideal S7168x9216 .fp8e4m3 from V c main_v4_0)
    ((show Vec Ideal S1x1 .f32 from V c main_v2_1) (ix2 0 0)) ((show Vec Ideal S1x1 .f32 from V c main_v4_1) (ix2 0 0)) := by
  refine (dat4 V c).arrAt_eq_of_covers 4 _ (by decide +kernel) fun t hf y => ?_
  blk_simp
  rw [after4_4]
  unfold Gen.outsAt4
  frame_out
  refine (k4_pay1_apply _ _ _ _ y).trans ?_
  unfold product
  refine (congrArg₂ (fun a b : EReal => _ * (a * b)) (smem0 V c t _) (smem1 V c t _)).trans ?_
  blk_point [iblk4, idx4 t]

end Cert.Proof.Matmul
-- ==== Proof.KernelArrays.lean ====
module

public import proofs.«01_k».proof.Proof.AmaxRun
public import proofs.«01_k».proof.Proof.Quantise
public import proofs.«01_k».proof.Proof.Matmul
/-!
# The kernel's buffers at the end of its five calls

Each result is followed back through the calls to the two arguments.
-/

@[expose] public section

set_option maxRecDepth 16384

noncomputable section

namespace Cert.Proof.KernelArrays

open Idealize.ShloMosaic Cert.KernelIdeal Cert.KernelIdeal.Gen Cert.Proof.Greatest Cert.Proof.Quantise Cert.Proof.Matmul

variable (m : (ℓ : Loc nD τ sig) → Buf (Elt Ideal) ℓ) (ρ : Dev nD → PrngReg) (c : Dev nD)

/-- The argument `dy`. -/
abbrev dy : Vec Ideal S2x8192x9216 .bf16 := m (c.tc.loc main_arg0)

/-- The argument `w`. -/
abbrev wt : Vec Ideal S7168x9216 .bf16 := m (c.tc.loc main_arg1)

/-- The argument `dy` as rows. -/
def rows : Vec Ideal S16384x9216 .bf16 := shapeCast S16384x9216 (dy m c) shapeCasts_S2x8192x9216_S16384x9216

/-- The array of maxima of `dy`. -/
def max1 : Vec Ideal S8x128 .f32 := W2 m ρ c (Proc.devRef .tc main_v1)

/-- The array of maxima of `w`. -/
def max3 : Vec Ideal S8x128 .f32 := W4 m ρ c (Proc.devRef .tc main_v3)

theorem W1_v0 : W1 m ρ c (Proc.devRef .tc main_v0) = rows m c := by
  unfold rows
  after_results
  rfl

theorem W2_v0 : W2 m ρ c (Proc.devRef .tc main_v0) = rows m c :=
  (W2_of m ρ c main_v0 (by decide)).trans (W1_v0 m ρ c)

/-- What bounds the maxima of `dy`. -/
theorem max1_below (z : EReal) : Below (max1 m ρ c) z ↔ 0 ≤ z ∧ Below (mag (dy m c)) z := by
  have e : max1 m ρ c = (show Vec Ideal S8x128 .f32 from (dat0 (V1 m ρ) c).arrAt 1 cfg0.N) := W2_arr m ρ c 1
  rw [e]
  refine (Amax.amax0 (V1 m ρ) c z).trans (and_congr_right fun _ => ?_)
  have e1 : (show Vec Ideal S16384x9216 .bf16 from V1 m ρ c main_v0) = rows m c := W1_v0 m ρ c
  rw [e1]
  unfold rows
  exact below_shapeCast (mag (dy m c)) _ z

/-- What bounds the maxima of `w`. -/
theorem max3_below (z : EReal) : Below (max3 m ρ c) z ↔ 0 ≤ z ∧ Below (mag (wt m c)) z := by
  have e : max3 m ρ c = (show Vec Ideal S8x128 .f32 from (dat2 (V3 m ρ) c).arrAt 1 cfg2.N) := W4_arr m ρ c 1
  rw [e]
  refine (Amax.amax2 (V3 m ρ) c z).trans (and_congr_right fun _ => ?_)
  have e1 : (show Vec Ideal S7168x9216 .bf16 from V3 m ρ c main_arg1) = wt m c := W3_args m ρ c main_arg1 (by decide)
  rw [e1]

/-- The codes of `dy` as rows. -/
def codesDy : Vec Ideal S16384x9216 .fp8e5m2 := fun j => codeDy (rows m c j) (inv1 (max1 m ρ c) (ix2 0 0))

/-- The codes of `w`. -/
def codesW : Vec Ideal S7168x9216 .fp8e4m3 := fun j => codeW (wt m c j) (inv3 (max3 m ρ c) (ix2 0 0))

theorem W3_v2_0 : W3 m ρ c (Proc.devRef .tc main_v2_0) = codesDy m ρ c := by
  refine (W3_arr m ρ c 2).trans ((codes1 (V2 m ρ) c).trans ?_)
  have e1 : (show Vec Ideal S16384x9216 .bf16 from V2 m ρ c main_v0) = rows m c := W2_v0 m ρ c
  rw [e1]
  rfl

theorem W3_v2_1 : W3 m ρ c (Proc.devRef .tc main_v2_1) = scale1 (max1 m ρ c) :=
  (W3_arr m ρ c 3).trans (stored1 (V2 m ρ) c)

theorem W5_v4_0 : W5 m ρ c (Proc.devRef .tc main_v4_0) = codesW m ρ c := by
  refine (W5_arr m ρ c 2).trans ((codes3 (V4 m ρ) c).trans ?_)
  have e1 : (show Vec Ideal S7168x9216 .bf16 from V4 m ρ c main_arg1) = wt m c := W4_args m ρ c main_arg1 (by decide)
  rw [e1]
  rfl

theorem W5_v4_1 : W5 m ρ c (Proc.devRef .tc main_v4_1) = scale3 (max3 m ρ c) :=
  (W5_arr m ρ c 3).trans (stored3 (V4 m ρ) c)

theorem W5_v2_0 : W5 m ρ c (Proc.devRef .tc main_v2_0) = codesDy m ρ c :=
  (W5_of m ρ c main_v2_0 (by decide)).trans ((W4_of m ρ c main_v2_0 (by decide)).trans (W3_v2_0 m ρ c))

theorem W5_v2_1 : W5 m ρ c (Proc.devRef .tc main_v2_1) = scale1 (max1 m ρ c) :=
  (W5_of m ρ c main_v2_1 (by decide)).trans ((W4_of m ρ c main_v2_1 (by decide)).trans (W3_v2_1 m ρ c))

/-- The product, at the end of the program. -/
theorem W7_v5 : W7 m ρ c (Proc.devRef .tc main_v5) = product (codesDy m ρ c) (codesW m ρ c)
    (scale1 (max1 m ρ c) (ix2 0 0)) (scale3 (max3 m ρ c) (ix2 0 0)) := by
  refine (W7_of m ρ c main_v5 (by decide)).trans ((W6_arr m ρ c 4).trans ((final4 (V5 m ρ) c).trans ?_))
  have e1 : (show Vec Ideal S16384x9216 .fp8e5m2 from V5 m ρ c main_v2_0) = codesDy m ρ c := W5_v2_0 m ρ c
  have e2 : (show Vec Ideal S7168x9216 .fp8e4m3 from V5 m ρ c main_v4_0) = codesW m ρ c := W5_v4_0 m ρ c
  have e3 : (show Vec Ideal S1x1 .f32 from V5 m ρ c main_v2_1) = scale1 (max1 m ρ c) := W5_v2_1 m ρ c
  have e4 : (show Vec Ideal S1x1 .f32 from V5 m ρ c main_v4_1) = scale3 (max3 m ρ c) := W5_v4_1 m ρ c
  rw [e1, e2, e3, e4]

theorem W6_v2_0 : W6 m ρ c (Proc.devRef .tc main_v2_0) = codesDy m ρ c :=
  (W6_of m ρ c main_v2_0 (by decide)).trans (W5_v2_0 m ρ c)

theorem W6_v2_1 : W6 m ρ c (Proc.devRef .tc main_v2_1) = scale1 (max1 m ρ c) :=
  (W6_of m ρ c main_v2_1 (by decide)).trans (W5_v2_1 m ρ c)

theorem W6_v4_1 : W6 m ρ c (Proc.devRef .tc main_v4_1) = scale3 (max3 m ρ c) :=
  (W6_of m ρ c main_v4_1 (by decide)).trans (W5_v4_1 m ρ c)

/-- The codes of `w`, at the end of the program. -/
theorem W7_v4_0 : W7 m ρ c (Proc.devRef .tc main_v4_0) = codesW m ρ c :=
  (W7_of m ρ c main_v4_0 (by decide)).trans ((W6_of m ρ c main_v4_0 (by decide)).trans (W5_v4_0 m ρ c))

/-- The codes of `dy`, at the end of the program. -/
theorem W7_v6 : W7 m ρ c (Proc.devRef .tc main_v6)
    = (shapeCast S2x8192x9216 (codesDy m ρ c) shapeCasts_S16384x9216_S2x8192x9216 : Vec Ideal S2x8192x9216 .fp8e5m2) := by
  rw [← W6_v2_0]
  after_results
  rfl

/-- The scale of `dy`, at the end of the program. -/
theorem W7_v7 : W7 m ρ c (Proc.devRef .tc main_v7)
    = (shapeCast S_ (scale1 (max1 m ρ c)) shapeCasts_S1x1_S_ : Vec Ideal S_ .f32) := by
  rw [← W6_v2_1]
  after_results
  rfl

/-- The scale of `w`, at the end of the program. -/
theorem W7_v8 : W7 m ρ c (Proc.devRef .tc main_v8)
    = (shapeCast S_ (scale3 (max3 m ρ c)) shapeCasts_S1x1_S_ : Vec Ideal S_ .f32) := by
  rw [← W6_v4_1]
  after_results
  rfl

end Cert.Proof.KernelArrays
-- ==== Proof.Precondition.lean ====
module

public import proofs.«01_k».proof.Defs
public import proofs.«01_k».proof.Proof.Greatest
public import Idealize.ShloMosaic.Lib.ReduceAll
/-!
# What the precondition says of the arguments

Every magnitude is at most the greatest finite `bf16` number, or infinite.
-/

@[expose] public section

set_option maxRecDepth 16384

noncomputable section

namespace Cert.Proof.Precondition

open Idealize.ShloMosaic Cert.Proof.Greatest

/-- The greatest finite `bf16` number, as the precondition spells it. -/
def greatest : EReal := Ideal.ofBits .f32 0x7F7F0000#32

/-- Every magnitude is at most the greatest finite `bf16` number, or infinite. -/
def InRange {s : Shape} (x : s.Idx → EReal) : Prop := ∀ i, mag x i ≤ greatest ∨ mag x i = ⊤

/-- The pattern of plus infinity, in `f32`. -/
theorem top_f32 : Ideal.ofBits .f32 0x7F800000#32 = ⊤ := by
  simp [Ideal.ofBits, Ideal.ieee]

/-- A decided proposition, read back from its bit. -/
theorem ofBool_decide {p : Prop} [Decidable p] : BitVec.ofBool (decide p) = 1#1 ↔ p := by
  by_cases h : p <;> simp [h]

/-- One element of the test. -/
theorem element {a : EReal} (h : IntOp.ori (Ideal.cmp .ole a greatest) (Ideal.cmp .oeq a (Ideal.ofBits .f32 0x7F800000#32)) = 1#1) :
    a ≤ greatest ∨ a = ⊤ := by
  rw [top_f32] at h
  rcases IntOp.ori_eq_one.1 h with h | h
  · left
    exact ofBool_decide.1 h
  · right
    exact ofBool_decide.1 h

/-- The precondition, read of both arguments. -/
theorem inRange [Cert.Pre_in_bf16_range.Facts] (x : FVec Ideal Cert.Pre_in_bf16_range.S2x8192x9216 .bf16)
    (y : FVec Ideal Cert.Pre_in_bf16_range.S7168x9216 .bf16)
    (h : Cert.Pre_in_bf16_range.fn (F := Ideal) x y = fun _ => 1#1) : InRange x ∧ InRange y := by
  have h0 := congrFun h (fun a => a.elim0)
  unfold Cert.Pre_in_bf16_range.fn Cert.Pre_in_bf16_range.fn_part1 at h0
  obtain ⟨h1, h2⟩ := IntOp.andi_eq_one.1 h0
  haveI : Subsingleton Cert.Pre_in_bf16_range.S_.Idx := ⟨fun a b => funext fun k => k.elim0⟩
  exact ⟨fun i => element (Host.reduce_andi_all _ _ _ _ _ h1 i), fun i => element (Host.reduce_andi_all _ _ _ _ _ h2 i)⟩

end Cert.Proof.Precondition
-- ==== Proof.SameScale.lean ====
module

public import proofs.«01_k».proof.Proof.Precondition
public import proofs.«01_k».proof.Proof.RefScale
public import proofs.«01_k».proof.Proof.Exponent
public import proofs.«01_k».proof.Proof.Quantise
/-!
# The kernel's scales are the reference's

The greatest of the kernel's maxima and the reference's maximum have the same upper bounds, so they are one number.
The quotient is then one number too, and the kernel's search for the exponent agrees with the reference's logarithm.
-/

@[expose] public section

set_option maxRecDepth 16384

noncomputable section

namespace Cert.Proof.SameScale

open Idealize.ShloMosaic Cert.Proof.Greatest Cert.Proof.Precondition Cert.Proof.RefScale Cert.Proof.Quantise
open Cert.Proof.Scale

/-- The scalar shape has one position. -/
theorem scalar_idx : Subsingleton Cert.ReferenceIdeal.S_.Idx := ⟨fun a b => funext fun k => k.elim0⟩

/-- The smallest normal `f32` number. -/
theorem tiny_f32 : Ideal.ofBits .f32 0x00800000#32 = (((2 : ℝ) ^ (-126 : ℤ) : ℝ) : EReal) := by
  simp [Ideal.ofBits, Ideal.ieee]
  rw [← EReal.coe_mul]
  norm_num

/-- Two. -/
theorem two_f32 : Ideal.ofBits .f32 0x40000000#32 = ((2 : ℝ) : EReal) := by
  simp [Ideal.ofBits, Ideal.ieee]
  rw [← EReal.coe_mul]
  norm_num

/-- The greatest finite `bf16` number is below `2 ^ 128`. -/
theorem greatest_le : greatest ≤ (((2 : ℝ) ^ (128 : ℤ) : ℝ) : EReal) := by
  simp [greatest, Ideal.ofBits, Ideal.ieee]
  norm_cast
  try norm_num

/-- The factor of `dy` is positive and at most `2 ^ -8`. -/
theorem factor_dy : ∃ r : ℝ, Ideal.ofBits .f32 0x37924925#32 = (r : EReal) ∧ 0 < r ∧ r ≤ (2 : ℝ) ^ (-8 : ℤ) := by
  refine ⟨_, by simp only [Ideal.ofBits, Ideal.ieee]; rfl, ?_, ?_⟩ <;> simp <;> norm_num

/-- The factor of `w` is positive and at most `2 ^ -8`. -/
theorem factor_w : ∃ r : ℝ, Ideal.ofBits .f32 0x3B124925#32 = (r : EReal) ∧ 0 < r ∧ r ≤ (2 : ℝ) ^ (-8 : ℤ) := by
  refine ⟨_, by simp only [Ideal.ofBits, Ideal.ieee]; rfl, ?_, ?_⟩ <;> simp <;> norm_num

/-- The reference's exponent, element by element. -/
theorem expVec_apply (a t : FVec Ideal Cert.ReferenceIdeal.S_ .f32) (j : Cert.ReferenceIdeal.S_.Idx) :
    expVec a t j = refExponent (a j) (t j) := by
  show Scalar.select (IntOp.ori (IntOp.ori (Ideal.cmp .oeq (a j) (Ideal.ofBits .f32 0x00000000#32))
      (Ideal.cmp .olt (t j) (Ideal.ofBits .f32 0x00800000#32))) (Ideal.cmp .oeq (t j) (Ideal.ofBits .f32 0x7F800000#32)))
    (Ideal.ofBits .f32 0x00000000#32)
    (Ideal.liftRound Int.floor (Ideal.div (Ideal.log (t j)) (Ideal.log (Ideal.ofBits .f32 0x40000000#32)))
      + Ideal.ofBits .f32 0x3F800000#32) = _
  rw [Ideal.ofBits_zero_f32, tiny_f32, top_f32, two_f32, Ideal.ofBits_one_f32]
  unfold refExponent Scalar.select
  refine if_congr ?_ rfl rfl
  show _ = 1#1 ↔ _
  rw [IntOp.ori_eq_one, IntOp.ori_eq_one, or_assoc]
  exact or_congr ofBool_decide (or_congr ofBool_decide ofBool_decide)

/-- The quotient of a maximum of numbers in range: not negative, and at most `2 ^ 120` or infinite. -/
theorem quotient {s : Shape} [Nonempty s.Idx] (x : s.Idx → EReal) (hx : InRange x) (g : EReal)
    (hg : ∀ z, g ≤ z ↔ 0 ≤ z ∧ Below (mag x) z) (r : ℝ) (h0 : 0 < r) (h1 : r ≤ (2 : ℝ) ^ (-8 : ℤ)) :
    0 ≤ g * r ∧ (g * r ≤ (((2 : ℝ) ^ (120 : ℤ) : ℝ) : EReal) ∨ g * r = ⊤) ∧ (g = 0 → g * r = 0) := by
  have hr : (0 : EReal) ≤ r := EReal.coe_nonneg.2 h0.le
  have hg0 : 0 ≤ g := ((hg g).1 le_rfl).1
  refine ⟨mul_nonneg hg0 hr, ?_, fun h => by rw [h, zero_mul]⟩
  by_cases ht : ∃ i, mag x i = ⊤
  · right
    obtain ⟨i, hi⟩ := ht
    have : g = ⊤ := top_le_iff.1 (hi ▸ ((hg g).1 le_rfl).2 i)
    rw [this, EReal.top_mul_coe_of_pos h0]
  · left
    have hle : g ≤ (((2 : ℝ) ^ (128 : ℤ) : ℝ) : EReal) :=
      (hg _).2 ⟨EReal.coe_nonneg.2 (zpow_pos (by norm_num) _).le, fun i =>
        ((hx i).resolve_right fun h => ht ⟨i, h⟩).trans greatest_le⟩
    refine (mul_le_mul_of_nonneg_right hle hr).trans ?_
    rw [← EReal.coe_mul]
    refine EReal.coe_le_coe_iff.2 ((mul_le_mul_of_nonneg_left h1 (zpow_pos (by norm_num) _).le).trans (le_of_eq ?_))
    rw [← zpow_add₀ (by norm_num)]
    norm_num

/-- Two maxima with the bounds of the same magnitudes are one number. -/
theorem same_max {s : Shape} [hne : Nonempty s.Idx] (x : s.Idx → EReal) (g R : EReal)
    (hg : ∀ z, g ≤ z ↔ 0 ≤ z ∧ Below (mag x) z) (hR : ∀ z, R ≤ z ↔ Below (mag x) z) : g = R := by
  refine eq_of_forall_ge_iff fun z => ?_
  rw [hg, hR]
  exact ⟨fun h => h.2, fun h => ⟨(mag_nonneg x hne.some).trans (h hne.some), h⟩⟩

/-- The bounds of the reference's maximum of `dy`. -/
theorem amaxDy_le (x : FVec Ideal Cert.ReferenceIdeal.S2x8192x9216 .bf16) (j) (z : EReal) :
    amaxDy x j ≤ z ↔ Below (mag x) z := by
  haveI := scalar_idx
  exact hostReduce_le _ _ _ _ (fun _ => bot_f32) j z

/-- The bounds of the reference's maximum of `w`. -/
theorem amaxW_le (x : FVec Ideal Cert.ReferenceIdeal.S7168x9216 .bf16) (j) (z : EReal) :
    amaxW x j ≤ z ↔ Below (mag x) z := by
  haveI := scalar_idx
  exact hostReduce_le _ _ _ _ (fun _ => bot_f32) j z

/-- `dy` has a position. -/
instance : Nonempty Cert.ReferenceIdeal.S2x8192x9216.Idx := ⟨fun a => ⟨0, by fin_cases a <;> decide⟩⟩

/-- `w` has a position. -/
instance : Nonempty Cert.ReferenceIdeal.S7168x9216.Idx := ⟨fun a => ⟨0, by fin_cases a <;> decide⟩⟩

/-- Two to the reference's exponent, at a position. -/
theorem powVec_apply (e : FVec Ideal Cert.ReferenceIdeal.S_ .f32) (j) : powVec e j = Ideal.pow ((2 : ℝ) : EReal) (e j) := by
  show Ideal.pow (Ideal.ofBits .f32 0x40000000#32) (e j) = _
  rw [two_f32]

/-- A product with a constant, at a position. -/
theorem mul_apply (a : FVec Ideal Cert.ReferenceIdeal.S_ .f32) (b : BitVec 32) (j) :
    (mulf a (constant Cert.ReferenceIdeal.S_ .f32 b) : FVec Ideal Cert.ReferenceIdeal.S_ .f32) j = a j * Ideal.ofBits .f32 b := rfl

/-- A negation, at a position. -/
theorem neg_apply (e : FVec Ideal Cert.ReferenceIdeal.S_ .f32) (j) :
    (Host.negf e : FVec Ideal Cert.ReferenceIdeal.S_ .f32) j = -(e j) := rfl

/-- The reference's scale and inverse scale, as the kernel's search finds them: for any maximum `a` of numbers in range
and any factor that is positive and at most `2 ^ -8`. -/
theorem search {s : Shape} [Nonempty s.Idx] (x : s.Idx → EReal) (hx : InRange x) (a : FVec Ideal Cert.ReferenceIdeal.S_ .f32)
    (j : Cert.ReferenceIdeal.S_.Idx) (ha : ∀ z, a j ≤ z ↔ Below (mag x) z) (g : EReal)
    (hg : ∀ z, g ≤ z ↔ 0 ≤ z ∧ Below (mag x) z) (b : BitVec 32)
    (hb : ∃ r : ℝ, Ideal.ofBits .f32 b = (r : EReal) ∧ 0 < r ∧ r ≤ (2 : ℝ) ^ (-8 : ℤ)) :
    power (127#32 + exponent (field (g * Ideal.ofBits .f32 b)))
        = powVec (expVec a (mulf a (constant Cert.ReferenceIdeal.S_ .f32 b))) j
    ∧ power (127#32 - exponent (field (g * Ideal.ofBits .f32 b)))
        = powVec (Host.negf (expVec a (mulf a (constant Cert.ReferenceIdeal.S_ .f32 b)))) j := by
  obtain ⟨r, hr, h0, h1⟩ := hb
  have hR : g = a j := same_max x g _ hg ha
  obtain ⟨q0, q1, q2⟩ := quotient x hx g hg r h0 h1
  obtain ⟨s0, s1⟩ := scale_eq g (g * r) q0 q1 q2
  rw [powVec_apply, powVec_apply, neg_apply, expVec_apply, mul_apply, ← hR, hr]
  exact ⟨s0, s1⟩

/-- The scale and the inverse scale of `dy`. -/
theorem dy (x : FVec Ideal Cert.ReferenceIdeal.S2x8192x9216 .bf16) (hx : InRange x)
    (v : Vec Ideal Cert.KernelIdeal.S8x128 .f32) (hv : ∀ z, Below (s := Cert.KernelIdeal.S8x128) v z ↔ 0 ≤ z ∧ Below (mag x) z)
    (i : Cert.KernelIdeal.S1x1.Idx) (j : Cert.ReferenceIdeal.S_.Idx) :
    scale1 v i = powVec (expDy x) j ∧ inv1 v i = powVec (Host.negf (expDy x)) j := by
  have ha := amaxDy_le x j
  unfold expDy
  generalize amaxDy x = a at ha ⊢
  obtain ⟨g, hg, ht⟩ := greatest1 v
  obtain ⟨s0, s1⟩ := search x hx a j ha g (fun z => (hg z).trans (hv z)) _ factor_dy
  rw [← s0, ← s1]
  have e0 : scale1 v i = _ := Exponent.k1_pay7_apply v i
  have e1 : inv1 v i = _ := Exponent.k1_pay8_apply v i
  rw [e0, e1, ht i]
  exact ⟨rfl, rfl⟩

/-- The scale and the inverse scale of `w`. -/
theorem w (x : FVec Ideal Cert.ReferenceIdeal.S7168x9216 .bf16) (hx : InRange x)
    (v : Vec Ideal Cert.KernelIdeal.S8x128 .f32) (hv : ∀ z, Below (s := Cert.KernelIdeal.S8x128) v z ↔ 0 ≤ z ∧ Below (mag x) z)
    (i : Cert.KernelIdeal.S1x1.Idx) (j : Cert.ReferenceIdeal.S_.Idx) :
    scale3 v i = powVec (expW x) j ∧ inv3 v i = powVec (Host.negf (expW x)) j := by
  have ha := amaxW_le x j
  unfold expW
  generalize amaxW x = a at ha ⊢
  obtain ⟨g, hg, ht⟩ := greatest3 v
  obtain ⟨s0, s1⟩ := search x hx a j ha g (fun z => (hg z).trans (hv z)) _ factor_w
  rw [← s0, ← s1]
  have e0 : scale3 v i = _ := Exponent.k3_pay7_apply v i
  have e1 : inv3 v i = _ := Exponent.k3_pay8_apply v i
  rw [e0, e1, ht i]
  exact ⟨rfl, rfl⟩

end Cert.Proof.SameScale
-- ==== Proof.RefPointwise.lean ====
module

public import proofs.«01_k».proof.Proof.Quantise
public import proofs.«01_k».proof.Proof.Gen.ReferenceIdeal.Value
/-!
# The reference's call, element by element
-/

@[expose] public section

set_option maxRecDepth 16384

noncomputable section

namespace Cert.Proof.RefPointwise

open Idealize.ShloMosaic Cert.ReferenceIdeal Cert.ReferenceIdeal.Gen Cert.Proof.Quantise

/-- One code of `dy`. -/
theorem k0_pay1_apply (x : Vec Ideal S2x8192x9216 .bf16) (i : EReal) (j : S2x8192x9216.Idx) :
    k0_pay1 (F := Ideal) x i j = codeDy (x j) i := by
  unfold codeDy
  pointwise [k0_pay1]

/-- One code of `w`. -/
theorem k0_pay2_apply (x : Vec Ideal S7168x9216 .bf16) (i : EReal) (j : S7168x9216.Idx) :
    k0_pay2 (F := Ideal) x i j = codeW (x j) i := by
  unfold codeW
  pointwise [k0_pay2]

/-- One element of the product: the codes of a row of `dy` against those of a row of `w`, rescaled. -/
theorem k0_pay3_apply (x : Vec Ideal S2x8192x9216 .bf16) (i : EReal) (y : Vec Ideal S7168x9216 .bf16) (i' s s' : EReal)
    (j : S2x8192x7168.Idx) : k0_pay3 (F := Ideal) x i y i' s s' j
      = (∑ k : Fin 9216, codeDy (x (ix3 (j 0) (j 1) k)) i * codeW (y (ix2 (j 2) k)) i') * (s * s') := by
  unfold codeDy codeW
  pointwise [k0_pay3, k0_pay1, k0_pay2]

end Cert.Proof.RefPointwise
-- ==== Proof.SameResults.lean ====
module

public import proofs.«01_k».proof.Proof.KernelArrays
public import proofs.«01_k».proof.Proof.SameScale
public import proofs.«01_k».proof.Proof.RefPointwise
/-!
# The kernel's results are the reference's

Each result of the kernel, as a function of the two arguments, is the reference's.
-/

@[expose] public section

set_option maxRecDepth 16384

noncomputable section

namespace Cert.Proof.SameResults

open Idealize.ShloMosaic Cert.KernelIdeal Cert.KernelIdeal.Gen Cert.Proof.Greatest Cert.Proof.Quantise Cert.Proof.Matmul
open Cert.Proof.Precondition Cert.Proof.KernelArrays Cert.Proof.RefScale

variable (m : (ℓ : Loc nD τ sig) → Buf (Elt Ideal) ℓ) (ρ : Dev nD → PrngReg) (c : Dev nD)

/-- Rows read back in the argument's shape are the argument. -/
theorem rows_back (j : S2x8192x9216.Idx) :
    rows m c (Shape.reshapeEquiv shapeCasts_S16384x9216_S2x8192x9216 j) = dy m c j := by
  have h := congrFun (shapeCast_shapeCast (dy m c) shapeCasts_S2x8192x9216_S16384x9216 shapeCasts_S16384x9216_S2x8192x9216) j
  exact h

/-- Row `8192 * a + b` is row `b` of part `a`. -/
theorem rows_apply (a : Fin 2) (b : Fin 8192) (k : Fin 9216) (h : (a : ℕ) * 8192 + (b : ℕ) < 16384) :
    rows m c (ix2 ⟨(a : ℕ) * 8192 + (b : ℕ), h⟩ k) = dy m c (ix3 a b k) := by
  unfold rows
  generalize dy m c = x
  pointwise []

/-- The scale of `dy`. -/
theorem scaleDy (hx : InRange (dy m c)) (i : S1x1.Idx) (j : S_.Idx) :
    scale1 (max1 m ρ c) i = powVec (expDy (dy m c)) j :=
  (SameScale.dy (dy m c) hx (max1 m ρ c) (max1_below m ρ c) i j).1

/-- The inverse scale of `dy`. -/
theorem invDy (hx : InRange (dy m c)) (i : S1x1.Idx) (j : S_.Idx) :
    inv1 (max1 m ρ c) i = powVec (Host.negf (expDy (dy m c))) j :=
  (SameScale.dy (dy m c) hx (max1 m ρ c) (max1_below m ρ c) i j).2

/-- The scale of `w`. -/
theorem scaleW (hy : InRange (wt m c)) (i : S1x1.Idx) (j : S_.Idx) :
    scale3 (max3 m ρ c) i = powVec (expW (wt m c)) j :=
  (SameScale.w (wt m c) hy (max3 m ρ c) (max3_below m ρ c) i j).1

/-- The inverse scale of `w`. -/
theorem invW (hy : InRange (wt m c)) (i : S1x1.Idx) (j : S_.Idx) :
    inv3 (max3 m ρ c) i = powVec (Host.negf (expW (wt m c))) j :=
  (SameScale.w (wt m c) hy (max3 m ρ c) (max3_below m ρ c) i j).2

/-- The stored scale of `dy`. -/
theorem v7 (hx : InRange (dy m c)) : W7 m ρ c (Proc.devRef .tc main_v7) = powVec (expDy (dy m c)) :=
  (W7_v7 m ρ c).trans (funext fun j => scaleDy m ρ c hx _ j)

/-- The stored scale of `w`. -/
theorem v8 (hy : InRange (wt m c)) : W7 m ρ c (Proc.devRef .tc main_v8) = powVec (expW (wt m c)) :=
  (W7_v8 m ρ c).trans (funext fun j => scaleW m ρ c hy _ j)

/-- The codes of `w`. -/
theorem v4_0 (hy : InRange (wt m c)) (j : S_.Idx) : W7 m ρ c (Proc.devRef .tc main_v4_0)
    = Cert.ReferenceIdeal.Gen.k0_pay2 (F := Ideal) (wt m c) (powVec (Host.negf (expW (wt m c))) j) := by
  rw [← invW m ρ c hy (ix2 0 0) j]
  exact (W7_v4_0 m ρ c).trans (funext fun i => (RefPointwise.k0_pay2_apply (wt m c) _ i).symm)

/-- The codes of `dy`. -/
theorem v6 (hx : InRange (dy m c)) (j : S_.Idx) : W7 m ρ c (Proc.devRef .tc main_v6)
    = Cert.ReferenceIdeal.Gen.k0_pay1 (F := Ideal) (dy m c) (powVec (Host.negf (expDy (dy m c))) j) := by
  rw [← invDy m ρ c hx (ix2 0 0) j]
  exact (W7_v6 m ρ c).trans (funext fun i =>
    (congrArg (codeDy · (inv1 (max1 m ρ c) (ix2 0 0))) (rows_back m c i)).trans (RefPointwise.k0_pay1_apply (dy m c) _ i).symm)

/-- The product. -/
theorem v5 (hx : InRange (dy m c)) (hy : InRange (wt m c)) (j : S_.Idx) : W7 m ρ c (Proc.devRef .tc main_v5)
    = Cert.ReferenceIdeal.Gen.k0_pay3 (F := Ideal) (dy m c) (powVec (Host.negf (expDy (dy m c))) j)
        (wt m c) (powVec (Host.negf (expW (wt m c))) j) (powVec (expDy (dy m c)) j) (powVec (expW (wt m c)) j) := by
  rw [← invDy m ρ c hx (ix2 0 0) j, ← invW m ρ c hy (ix2 0 0) j, ← scaleDy m ρ c hx (ix2 0 0) j,
    ← scaleW m ρ c hy (ix2 0 0) j]
  refine (W7_v5 m ρ c).trans (funext fun i => ?_)
  refine Eq.trans ?_ (RefPointwise.k0_pay3_apply (dy m c) _ (wt m c) _ _ _ i).symm
  unfold product codesDy codesW
  refine congrArg (· * _) (Finset.sum_congr rfl fun k _ => ?_)
  exact congrArg (codeDy · (inv1 (max1 m ρ c) (ix2 0 0)) * _) (rows_apply m c (i 0) (i 1) k _)

end Cert.Proof.SameResults
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_in_bf16_range
public import proofs.«01_k».proof.Proof.KernelRun
public import proofs.«01_k».proof.Proof.ReferenceRun
public import proofs.«01_k».proof.Proof.SameResults
/-!
# The proof of `Cert.Claim`

The frames are the generated ones. The algebraic claim puts the kernel's run (`KernelRun.results`) beside the
reference's (`ReferenceRun.results`); `SameResults` equates the five results.
-/

@[expose] public section

set_option maxRecDepth 16384

noncomputable section

namespace Cert.Proof

open Idealize.ShloMosaic Idealize.SL.Sem

/-- The kernel and the reference compute the same five results from the same arguments in range. -/
theorem algebraic : Cert.algebraic_KernelIdeal_ReferenceIdeal_pre_in_bf16_range := by
  intro m g m' g' hpre hargs
  have hr := fun c => Precondition.inRange _ _ (hpre c)
  refine ⟨_, _, _, _, _, KernelRun.results m g, (θ_run _ _ _).mono (fun r h c => ?_) (ReferenceRun.results m' g')⟩
  obtain ⟨h0, h1, h2, h3, h4, h5, h6⟩ := h c
  have e0 : ReferenceRun.dy m' c = KernelArrays.dy m c := (hargs c).1
  have e1 : ReferenceRun.wt m' c = KernelArrays.wt m c := (hargs c).2
  rw [e0] at h0 h1 h2
  rw [e1] at h0 h3 h4
  exact ⟨h0.trans (SameResults.v5 m g c (hr c).1 (hr c).2 _).symm, h1.trans (SameResults.v6 m g c (hr c).1 _).symm,
    h2.trans (SameResults.v7 m g c (hr c).1).symm, h3.trans (SameResults.v4_0 m g c (hr c).2 _).symm,
    h4.trans (SameResults.v8 m g c (hr c).2).symm, h5, h6⟩

/-- Every claim of the certificate. -/
theorem claim : Cert.Claim :=
  ⟨Cert.Kernel.Gen.facts, Cert.KernelIdeal.Gen.facts, Cert.ReferenceIdeal.Gen.facts, Cert.Pre_in_bf16_range.Gen.facts,
    fun m g _ => Cert.Kernel.Gen.frame m g, fun m g _ => Cert.KernelIdeal.Gen.frame m g,
    fun m g _ => Cert.KernelIdeal.Gen.frame m g, fun m g _ => Cert.ReferenceIdeal.Gen.frame m g,
    fun m g _ => Cert.ReferenceIdeal.Gen.frame m g, trivial, algebraic⟩

end Cert.Proof
